-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024x64 : Shape := ⟨2, ![1024, 64]⟩
abbrev S64 : Shape := ⟨1, ![64]⟩
abbrev S4x16x4 : Shape := ⟨3, ![4, 16, 4]⟩
abbrev S4x4 : Shape := ⟨2, ![4, 4]⟩
abbrev S4 : Shape := ⟨1, ![4]⟩
abbrev S4x16x16 : Shape := ⟨3, ![4, 16, 16]⟩
abbrev S4x16 : Shape := ⟨2, ![4, 16]⟩
abbrev S4x16x64 : Shape := ⟨3, ![4, 16, 64]⟩
abbrev S4x64 : Shape := ⟨2, ![4, 64]⟩
abbrev S64x1024x1024 : Shape := ⟨3, ![64, 1024, 1024]⟩
abbrev S64x1024 : Shape := ⟨2, ![64, 1024]⟩
abbrev S1024 : Shape := ⟨1, ![1024]⟩
abbrev S2048x1024 : Shape := ⟨2, ![2048, 1024]⟩
abbrev S1x64 : Shape := ⟨2, ![1, 64]⟩
abbrev S1x4 : Shape := ⟨2, ![1, 4]⟩
abbrev S1024x1 : Shape := ⟨2, ![1024, 1]⟩
abbrev S1024x2048 : Shape := ⟨2, ![1024, 2048]⟩
abbrev S1x1024x1024 : Shape := ⟨3, ![1, 1024, 1024]⟩
abbrev S64x2048 : Shape := ⟨2, ![64, 2048]⟩
abbrev S64x8x2048 : Shape := ⟨3, ![64, 8, 2048]⟩
abbrev S2048x64 : Shape := ⟨2, ![2048, 64]⟩
abbrev S1 : Shape := ⟨1, ![1]⟩
abbrev S1x1 : Shape := ⟨2, ![1, 1]⟩
abbrev S2048x4 : Shape := ⟨2, ![2048, 4]⟩
abbrev S2048x16 : Shape := ⟨2, ![2048, 16]⟩
abbrev S1x16x4 : Shape := ⟨3, ![1, 16, 4]⟩
abbrev S16x4 : Shape := ⟨2, ![16, 4]⟩
abbrev S1x16x16 : Shape := ⟨3, ![1, 16, 16]⟩
abbrev S16x16 : Shape := ⟨2, ![16, 16]⟩
abbrev S1x16 : Shape := ⟨2, ![1, 16]⟩
abbrev S1x16x64 : Shape := ⟨3, ![1, 16, 64]⟩
abbrev S16x64 : Shape := ⟨2, ![16, 64]⟩
abbrev S2048 : Shape := ⟨1, ![2048]⟩
abbrev S2048x1 : Shape := ⟨2, ![2048, 1]⟩
abbrev S64x64 : Shape := ⟨2, ![64, 64]⟩
abbrev S64x1x2048 : Shape := ⟨3, ![64, 1, 2048]⟩
abbrev S1024x1024 : Shape := ⟨2, ![1024, 1024]⟩
abbrev S1x8x2048 : Shape := ⟨3, ![1, 8, 2048]⟩
abbrev S1x1x2048 : Shape := ⟨3, ![1, 1, 2048]⟩
abbrev S1x2048 : Shape := ⟨2, ![1, 2048]⟩

abbrev nBuf : Space → Nat
  | .hbm => 28
  | .vmem => 22
  | .smem => 0
  | _ => 0

abbrev bufTy : (tb : Table) → Fin (tcTables nBuf tb) → BufTy
  | .hbm, ⟨0, _⟩ => ⟨S1x2048x1024, .f32⟩
  | .hbm, ⟨1, _⟩ => ⟨S1024x64, .f32⟩
  | .hbm, ⟨2, _⟩ => ⟨S64, .f32⟩
  | .hbm, ⟨3, _⟩ => ⟨S4x16x4, .f32⟩
  | .hbm, ⟨4, _⟩ => ⟨S4x4, .f32⟩
  | .hbm, ⟨5, _⟩ => ⟨S4, .f32⟩
  | .hbm, ⟨6, _⟩ => ⟨S4x16x16, .f32⟩
  | .hbm, ⟨7, _⟩ => ⟨S4x16, .f32⟩
  | .hbm, ⟨8, _⟩ => ⟨S4, .f32⟩
  | .hbm, ⟨9, _⟩ => ⟨S4x16x64, .f32⟩
  | .hbm, ⟨10, _⟩ => ⟨S4x64, .f32⟩
  | .hbm, ⟨11, _⟩ => ⟨S4, .f32⟩
  | .hbm, ⟨12, _⟩ => ⟨S64x1024x1024, .f32⟩
  | .hbm, ⟨13, _⟩ => ⟨S64x1024, .f32⟩
  | .hbm, ⟨14, _⟩ => ⟨S1024, .f32⟩
  | .hbm, ⟨15, _⟩ => ⟨S1024, .f32⟩
  | .hbm, ⟨16, _⟩ => ⟨S2048x1024, .f32⟩
  | .hbm, ⟨17, _⟩ => ⟨S1x64, .f32⟩
  | .hbm, ⟨18, _⟩ => ⟨S1x4, .f32⟩
  | .hbm, ⟨19, _⟩ => ⟨S1x4, .f32⟩
  | .hbm, ⟨20, _⟩ => ⟨S1x4, .f32⟩
  | .hbm, ⟨21, _⟩ => ⟨S1024x64, .f32⟩
  | .hbm, ⟨22, _⟩ => ⟨S1024x1, .f32⟩
  | .hbm, ⟨23, _⟩ => ⟨S1024x1, .f32⟩
  | .hbm, ⟨24, _⟩ => ⟨S1024x2048, .f32⟩
  | .hbm, ⟨25, _⟩ => ⟨S1024x2048, .f32⟩
  | .hbm, ⟨26, _⟩ => ⟨S2048x1024, .f32⟩
  | .hbm, ⟨27, _⟩ => ⟨S1x2048x1024, .f32⟩
  | .local _ .vmem, ⟨0, _⟩ => ⟨S2048x1024, .f32⟩
  | .local _ .vmem, ⟨1, _⟩ => ⟨S1024x64, .f32⟩
  | .local _ .vmem, ⟨2, _⟩ => ⟨S1x64, .f32⟩
  | .local _ .vmem, ⟨3, _⟩ => ⟨S4x16x4, .f32⟩
  | .local _ .vmem, ⟨4, _⟩ => ⟨S4x4, .f32⟩
  | .local _ .vmem, ⟨5, _⟩ => ⟨S1x4, .f32⟩
  | .local _ .vmem, ⟨6, _⟩ => ⟨S4x16x16, .f32⟩
  | .local _ .vmem, ⟨7, _⟩ => ⟨S4x16, .f32⟩
  | .local _ .vmem, ⟨8, _⟩ => ⟨S1x4, .f32⟩
  | .local _ .vmem, ⟨9, _⟩ => ⟨S4x16x64, .f32⟩
  | .local _ .vmem, ⟨10, _⟩ => ⟨S4x64, .f32⟩
  | .local _ .vmem, ⟨11, _⟩ => ⟨S1x4, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x64, .f32⟩
  | .local _ .vmem, ⟨15, _⟩ => ⟨S1024x1, .f32⟩
  | .local _ .vmem, ⟨16, _⟩ => ⟨S1024x1, .f32⟩
  | .local _ .vmem, ⟨17, _⟩ => ⟨S1024x2048, .f32⟩
  | .local _ .vmem, ⟨18, _⟩ => ⟨S1024x2048, .f32⟩
  | .local _ .vmem, ⟨19, _⟩ => ⟨S1024x2048, .fp8e4m3⟩
  | .local _ .vmem, ⟨20, _⟩ => ⟨S64x2048, .bf16⟩
  | .local _ .vmem, ⟨21, _⟩ => ⟨S64x8x2048, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem12_1 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let arg0 : BitVec 32 := BitVec.ofNat 32 (i 0).val
  let v8 : Index := Scalar.indexCast arg0
  let c0_5 : Index := 0#32
  let c0_6 : Index := 0#32
  ![v8.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x16x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S1x2048x1024 : Shape := ⟨3, ![1, 2048, 1024]⟩
abbrev S1024x64 : Shape := ⟨2, ![1024, 64]⟩
abbrev S64 : Shape := ⟨1, ![64]⟩
abbrev S4x16x4 : Shape := ⟨3, ![4, 16, 4]⟩
abbrev S4x4 : Shape := ⟨2, ![4, 4]⟩
abbrev S4 : Shape := ⟨1, ![4]⟩
abbrev S4x16x16 : Shape := ⟨3, ![4, 16, 16]⟩
abbrev S4x16 : Shape := ⟨2, ![4, 16]⟩
abbrev S4x16x64 : Shape := ⟨3, ![4, 16, 64]⟩
abbrev S4x64 : Shape := ⟨2, ![4, 64]⟩
abbrev S64x1024x1024 : Shape := ⟨3, ![64, 1024, 1024]⟩
abbrev S64x1024 : Shape := ⟨2, ![64, 1024]⟩
abbrev S1024 : Shape := ⟨1, ![1024]⟩
abbrev S1x2048x64 : Shape := ⟨3, ![1, 2048, 64]⟩
abbrev S1x1x64 : Shape := ⟨3, ![1, 1, 64]⟩
abbrev S1x2048x4x16 : Shape := ⟨4, ![1, 2048, 4, 16]⟩
abbrev S4x4x1x2048 : Shape := ⟨4, ![4, 4, 1, 2048]⟩
abbrev S1x2048x4x4 : Shape := ⟨4, ![1, 2048, 4, 4]⟩
abbrev S1x1x4x4 : Shape := ⟨4, ![1, 1, 4, 4]⟩
abbrev S_ : Shape := ⟨0, ![]⟩
abbrev S1 : Shape := ⟨1, ![1]⟩
abbrev S1x2048x4 : Shape := ⟨3, ![1, 2048, 4]⟩
abbrev S1x2048 : Shape := ⟨2, ![1, 2048]⟩
abbrev S1x2048x1 : Shape := ⟨3, ![1, 2048, 1]⟩
abbrev S4x16x1x2048 : Shape := ⟨4, ![4, 16, 1, 2048]⟩
abbrev S1x1x4x16 : Shape := ⟨4, ![1, 1, 4, 16]⟩
abbrev S1x2048x16 : Shape := ⟨3, ![1, 2048, 16]⟩
abbrev S1x2048x4x1 : Shape := ⟨4, ![1, 2048, 4, 1]⟩
abbrev S4x64x1x2048 : Shape := ⟨4, ![4, 64, 1, 2048]⟩
abbrev S1x2048x4x64 : Shape := ⟨4, ![1, 2048, 4, 64]⟩
abbrev S1x1x4x64 : Shape := ⟨4, ![1, 1, 4, 64]⟩
abbrev S1x2048x16x4 : Shape := ⟨4, ![1, 2048, 16, 4]⟩
abbrev S1x2048x16x1 : Shape := ⟨4, ![1, 2048, 16, 1]⟩
abbrev S1x2048x64x1024 : Shape := ⟨4, ![1, 2048, 64, 1024]⟩
abbrev S1x1x1024 : Shape := ⟨3, ![1, 1, 1024]⟩

abbrev nBuf : Space → Nat
  | .hbm => 232
  | .vmem => 0
  | .smem => 0
  | _ => 0

abbrev hbmTy0_0 (i : Nat) : BufTy := match i % 128 with
  | 0 => ⟨S1x2048x1024, .f32⟩
  | 1 => ⟨S1024x64, .f32⟩
  | 2 => ⟨S64, .f32⟩
  | 3 => ⟨S4x16x4, .f32⟩
  | 4 => ⟨S4x4, .f32⟩
  | 5 => ⟨S4, .f32⟩
  | 6 => ⟨S4x16x16, .f32⟩
  | 7 => ⟨S4x16, .f32⟩
  | 8 => ⟨S4, .f32⟩
  | 9 => ⟨S4x16x64, .f32⟩
  | 10 => ⟨S4x64, .f32⟩
  | 11 => ⟨S4, .f32⟩
  | 12 => ⟨S64x1024x1024, .f32⟩
  | 13 => ⟨S64x1024, .f32⟩
  | 14 => ⟨S1024, .f32⟩
  | 15 => ⟨S1024, .f32⟩
  | 16 => ⟨S1x2048x64, .f32⟩
  | 17 => ⟨S1x1x64, .f32⟩
  | 18 => ⟨S1x2048x64, .f32⟩
  | 19 => ⟨S1x2048x64, .f32⟩
  | 20 => ⟨S1x2048x64, .f32⟩
  | 21 => ⟨S1x2048x4x16, .f32⟩
  | 22 => ⟨S4x4x1x2048, .f32⟩
  | 23 => ⟨S1x2048x4x4, .f32⟩
  | 24 => ⟨S1x1x4x4, .f32⟩
  | 25 => ⟨S1x2048x4x4, .f32⟩
  | 26 => ⟨S1x2048x4x4, .f32⟩
  | 27 => ⟨S1x2048x4x4, .f32⟩
  | 28 => ⟨S1x2048x4x4, .f32⟩
  | 29 => ⟨S_, .f32⟩
  | 30 => ⟨S1x2048x4x4, .f32⟩
  | 31 => ⟨S1x2048x4x4, .f32⟩
  | 32 => ⟨S_, .f32⟩
  | 33 => ⟨S1x2048x4x4, .f32⟩
  | 34 => ⟨S1x2048x4x4, .f32⟩
  | 35 => ⟨S_, .f32⟩
  | 36 => ⟨S_, .f32⟩
  | 37 => ⟨S_, .f32⟩
  | 38 => ⟨S_, .f32⟩
  | 39 => ⟨S1, .f32⟩
  | 40 => ⟨S4, .f32⟩
  | 41 => ⟨S4, .f32⟩
  | 42 => ⟨S4, .f32⟩
  | 43 => ⟨S_, .f32⟩
  | 44 => ⟨S_, .f32⟩
  | 45 => ⟨S1, .f32⟩
  | 46 => ⟨S4, .f32⟩
  | 47 => ⟨S4, .f32⟩
  | 48 => ⟨S1x2048x4, .f32⟩
  | 49 => ⟨S_, .f32⟩
  | 50 => ⟨S1x2048x4, .f32⟩
  | 51 => ⟨S1x2048x4, .f32⟩
  | 52 => ⟨S_, .f32⟩
  | 53 => ⟨S1x2048, .f32⟩
  | 54 => ⟨S_, .f32⟩
  | 55 => ⟨S1x2048, .f32⟩
  | 56 => ⟨S1x2048, .f32⟩
  | 57 => ⟨S1x2048x1, .f32⟩
  | 58 => ⟨S1x2048x4, .f32⟩
  | 59 => ⟨S1x2048x4, .f32⟩
  | 60 => ⟨S1x2048x4, .f32⟩
  | 61 => ⟨S_, .f32⟩
  | 62 => ⟨S1x2048, .f32⟩
  | 63 => ⟨S1x2048x1, .f32⟩
  | 64 => ⟨S1x2048x4, .f32⟩
  | 65 => ⟨S1x2048x4, .f32⟩
  | 66 => ⟨S1x2048x4x16, .f32⟩
  | 67 => ⟨S4x16x1x2048, .f32⟩
  | 68 => ⟨S1x2048x4x16, .f32⟩
  | 69 => ⟨S1x1x4x16, .f32⟩
  | 70 => ⟨S1x2048x4x16, .f32⟩
  | 71 => ⟨S1x2048x4x16, .f32⟩
  | 72 => ⟨S1x2048x4x16, .f32⟩
  | 73 => ⟨S1x2048x4x16, .f32⟩
  | 74 => ⟨S_, .f32⟩
  | 75 => ⟨S1x2048x4x16, .f32⟩
  | 76 => ⟨S1x2048x4x16, .f32⟩
  | 77 => ⟨S_, .f32⟩
  | 78 => ⟨S1x2048x4x16, .f32⟩
  | 79 => ⟨S1x2048x4x16, .f32⟩
  | 80 => ⟨S_, .f32⟩
  | 81 => ⟨S_, .f32⟩
  | 82 => ⟨S_, .f32⟩
  | 83 => ⟨S_, .f32⟩
  | 84 => ⟨S1, .f32⟩
  | 85 => ⟨S4, .f32⟩
  | 86 => ⟨S4, .f32⟩
  | 87 => ⟨S4, .f32⟩
  | 88 => ⟨S_, .f32⟩
  | 89 => ⟨S_, .f32⟩
  | 90 => ⟨S1, .f32⟩
  | 91 => ⟨S4, .f32⟩
  | 92 => ⟨S4, .f32⟩
  | 93 => ⟨S1x2048x16, .f32⟩
  | 94 => ⟨S1x2048x4x4, .f32⟩
  | 95 => ⟨S_, .f32⟩
  | 96 => ⟨S1x2048x4x4, .f32⟩
  | 97 => ⟨S1x2048x4x4, .f32⟩
  | 98 => ⟨S_, .f32⟩
  | 99 => ⟨S1x2048x4, .f32⟩
  | 100 => ⟨S_, .f32⟩
  | 101 => ⟨S1x2048x4, .f32⟩
  | 102 => ⟨S1x2048x4, .f32⟩
  | 103 => ⟨S1x2048x4x1, .f32⟩
  | 104 => ⟨S1x2048x4x4, .f32⟩
  | 105 => ⟨S1x2048x4x4, .f32⟩
  | 106 => ⟨S1x2048x4x4, .f32⟩
  | 107 => ⟨S_, .f32⟩
  | 108 => ⟨S1x2048x4, .f32⟩
  | 109 => ⟨S1x2048x4x1, .f32⟩
  | 110 => ⟨S1x2048x4x4, .f32⟩
  | 111 => ⟨S1x2048x4x4, .f32⟩
  | 112 => ⟨S1x2048x4x1, .f32⟩
  | 113 => ⟨S1x2048x4x4, .f32⟩
  | 114 => ⟨S1x2048x4x4, .f32⟩
  | 115 => ⟨S1x2048x16, .f32⟩
  | 116 => ⟨S1x2048x4x16, .f32⟩
  | 117 => ⟨S4x64x1x2048, .f32⟩
  | 118 => ⟨S1x2048x4x64, .f32⟩
  | 119 => ⟨S1x1x4x64, .f32⟩
  | 120 => ⟨S1x2048x4x64, .f32⟩
  | 121 => ⟨S1x2048x4x64, .f32⟩
  | 122 => ⟨S1x2048x4x64, .f32⟩
  | 123 => ⟨S1x2048x4x64, .f32⟩
  | 124 => ⟨S_, .f32⟩
  | 125 => ⟨S1x2048x4x64, .f32⟩
  | 126 => ⟨S1x2048x4x64, .f32⟩
  | 127 => ⟨S_, .f32⟩
  | _ => ⟨S1x2048x1024, .f32⟩

abbrev hbmTy0_1 (i : Nat) : BufTy := match i % 128 with
  | 0 => ⟨S1x2048x4x64, .f32⟩
  | 1 => ⟨S1x2048x4x64, .f32⟩
  | 2 => ⟨S_, .f32⟩
  | 3 => ⟨S_, .f32⟩
  | 4 => ⟨S_, .f32⟩
  | 5 => ⟨S_, .f32⟩
  | 6 => ⟨S1, .f32⟩
  | 7 => ⟨S4, .f32⟩
  | 8 => ⟨S4, .f32⟩
  | 9 => ⟨S4, .f32⟩
  | 10 => ⟨S_, .f32⟩
  | 11 => ⟨S_, .f32⟩
  | 12 => ⟨S1, .f32⟩
  | 13 => ⟨S4, .f32⟩
  | 14 => ⟨S4, .f32⟩
  | 15 => ⟨S1x2048x64, .f32⟩
  | 16 => ⟨S1x2048x16x4, .f32⟩
  | 17 => ⟨S_, .f32⟩
  | 18 => ⟨S1x2048x16x4, .f32⟩
  | 19 => ⟨S1x2048x16x4, .f32⟩
  | 20 => ⟨S_, .f32⟩
  | 21 => ⟨S1x2048x16, .f32⟩
  | 22 => ⟨S_, .f32⟩
  | 23 => ⟨S1x2048x16, .f32⟩
  | 24 => ⟨S1x2048x16, .f32⟩
  | 25 => ⟨S1x2048x16x1, .f32⟩
  | 26 => ⟨S1x2048x16x4, .f32⟩
  | 27 => ⟨S1x2048x16x4, .f32⟩
  | 28 => ⟨S1x2048x16x4, .f32⟩
  | 29 => ⟨S_, .f32⟩
  | 30 => ⟨S1x2048x16, .f32⟩
  | 31 => ⟨S1x2048x16x1, .f32⟩
  | 32 => ⟨S1x2048x16x4, .f32⟩
  | 33 => ⟨S1x2048x16x4, .f32⟩
  | 34 => ⟨S1x2048x16x1, .f32⟩
  | 35 => ⟨S1x2048x16x4, .f32⟩
  | 36 => ⟨S1x2048x16x4, .f32⟩
  | 37 => ⟨S1x2048x64, .f32⟩
  | 38 => ⟨S1x2048x64x1024, .f32⟩
  | 39 => ⟨S1x2048x1024, .f32⟩
  | 40 => ⟨S1x2048x1024, .f32⟩
  | 41 => ⟨S1x2048x1024, .f32⟩
  | 42 => ⟨S1x2048x1024, .f32⟩
  | 43 => ⟨S1x2048x1024, .f32⟩
  | 44 => ⟨S_, .f32⟩
  | 45 => ⟨S1x2048x1024, .f32⟩
  | 46 => ⟨S1x2048x1024, .f32⟩
  | 47 => ⟨S1x2048x1024, .f32⟩
  | 48 => ⟨S_, .f32⟩
  | 49 => ⟨S1x2048x1024, .f32⟩
  | 50 => ⟨S1x2048x1024, .f32⟩
  | 51 => ⟨S1x2048x1024, .f32⟩
  | 52 => ⟨S_, .f32⟩
  | 53 => ⟨S1x2048x1024, .f32⟩
  | 54 => ⟨S1x2048x1024, .f32⟩
  | 55 => ⟨S_, .f32⟩
  | 56 => ⟨S1x2048x1024, .f32⟩
  | 57 => ⟨S1x2048x1024, .f32⟩
  | 58 => ⟨S1x2048x1024, .f32⟩
  | 59 => ⟨S1x2048x1024, .f32⟩
  | 60 => ⟨S_, .f32⟩
  | 61 => ⟨S1x2048, .f32⟩
  | 62 => ⟨S1x2048x1, .f32⟩
  | 63 => ⟨S_, .f32⟩
  | 64 => ⟨S1x2048x1, .f32⟩
  | 65 => ⟨S1x2048x1, .f32⟩
  | 66 => ⟨S_, .i32⟩
  | 67 => ⟨S_, .f32⟩
  | 68 => ⟨S1x2048, .f32⟩
  | 69 => ⟨S1x2048x1, .f32⟩
  | 70 => ⟨S_, .f32⟩
  | 71 => ⟨S1x2048x1, .f32⟩
  | 72 => ⟨S1x2048x1, .f32⟩
  | 73 => ⟨S1x2048x1024, .f32⟩
  | 74 => ⟨S1x2048x1024, .f32⟩
  | 75 => ⟨S1x2048x1024, .f32⟩
  | 76 => ⟨S_, .f32⟩
  | 77 => ⟨S_, .f32⟩
  | 78 => ⟨S_, .f32⟩
  | 79 => ⟨S_, .f32⟩
  | 80 => ⟨S1x2048, .f32⟩
  | 81 => ⟨S1x2048x1, .f32⟩
  | 82 => ⟨S1x2048x1, .f32⟩
  | 83 => ⟨S1x2048x1, .f32⟩
  | 84 => ⟨S_, .f32⟩
  | 85 => ⟨S_, .i1⟩
  | 86 => ⟨S_, .f32⟩
  | 87 => ⟨S_, .f32⟩
  | 88 => ⟨S1x2048x1, .f32⟩
  | 89 => ⟨S1x2048x1, .f32⟩
  | 90 => ⟨S1x2048x1024, .f32⟩
  | 91 => ⟨S1x2048x1024, .f32⟩
  | 92 => ⟨S_, .f32⟩
  | 93 => ⟨S1x2048x1, .f32⟩
  | 94 => ⟨S1x2048x1, .f32⟩
  | 95 => ⟨S1x2048x1, .f32⟩
  | 96 => ⟨S1x2048x1024, .f32⟩
  | 97 => ⟨S1x2048x1024, .f32⟩
  | 98 => ⟨S1x1x1024, .f32⟩
  | 99 => ⟨S1x2048x1024, .f32⟩
  | 100 => ⟨S1x2048x1024, .f32⟩
  | 101 => ⟨S1x1x1024, .f32⟩
  | 102 => ⟨S1x2048x1024, .f32⟩
  | 103 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_17 : Ref sig .tc := ⟨.hbm, 124, rfl⟩
abbrev main_v90 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_v93 : Ref sig .tc := ⟨.hbm, 129, rfl⟩
abbrev main_cst_19 : Ref sig .tc := ⟨.hbm, 130, rfl⟩
abbrev main_v94 : Ref sig .tc := ⟨.hbm, 131, rfl⟩
abbrev main_cst_20 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_21 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_22 : Ref sig .tc := ⟨.hbm, 145, rfl⟩
abbrev main_v106 : Ref sig .tc := ⟨.hbm, 146, rfl⟩
abbrev main_v107 : Ref sig .tc := ⟨.hbm, 147, rfl⟩
abbrev main_cst_23 : Ref sig .tc := ⟨.hbm, 148, rfl⟩
abbrev main_v108 : Ref sig .tc := ⟨.hbm, 149, rfl⟩
abbrev main_cst_24 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_25 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_26 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_27 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_28 : Ref sig .tc := ⟨.hbm, 180, rfl⟩
abbrev main_v135 : Ref sig .tc := ⟨.hbm, 181, rfl⟩
abbrev main_v136 : Ref sig .tc := ⟨.hbm, 182, rfl⟩
abbrev main_cst_29 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_30 : Ref sig .tc := ⟨.hbm, 188, rfl⟩
abbrev main_v141 : Ref sig .tc := ⟨.hbm, 189, rfl⟩
abbrev main_v142 : Ref sig .tc := ⟨.hbm, 190, rfl⟩
abbrev main_cst_31 : Ref sig .tc := ⟨.hbm, 191, rfl⟩
abbrev main_v143 : Ref sig .tc := ⟨.hbm, 192, rfl⟩
abbrev main_v144 : Ref sig .tc := ⟨.hbm, 193, rfl⟩
abbrev main_c : Ref sig .tc := ⟨.hbm, 194, rfl⟩
abbrev main_call0_cst : Ref sig .tc := ⟨.hbm, 195, rfl⟩
abbrev main_call0_v0 : Ref sig .tc := ⟨.hbm, 196, rfl⟩
abbrev main_call0_v1 : Ref sig .tc := ⟨.hbm, 197, rfl⟩
abbrev main_call0_cst_0 : Ref sig .tc := ⟨.hbm, 198, rfl⟩
abbrev main_call0_v2 : Ref sig .tc := ⟨.hbm, 199, rfl⟩
abbrev main_call0_v3 : Ref sig .tc := ⟨.hbm, 200, rfl⟩
abbrev main_call0_v4 : Ref sig .tc := ⟨.hbm, 201, rfl⟩
abbrev main_call0_v5 : Ref sig .tc := ⟨.hbm, 202, rfl⟩
abbrev main_call0_v6 : Ref sig .tc := ⟨.hbm, 203, rfl⟩
abbrev main_call0_v7 : Ref sig .tc := ⟨.hbm, 204, rfl⟩
abbrev main_call0_cst_1 : Ref sig .tc := ⟨.hbm, 205, rfl⟩
abbrev main_call0_v8 : Ref sig .tc := ⟨.hbm, 206, rfl⟩
abbrev main_call0_cst_2 : Ref sig .tc := ⟨.hbm, 207, rfl⟩
abbrev main_call0_v9 : Ref sig .tc := ⟨.hbm, 208, rfl⟩
abbrev main_call0_v10 : Ref sig .tc := ⟨.hbm, 209, rfl⟩
abbrev main_call0_v11 : Ref sig .tc := ⟨.hbm, 210, rfl⟩
abbrev main_call0_v12 : Ref sig .tc := ⟨.hbm, 211, rfl⟩
abbrev main_call0_cst_3 : Ref sig .tc := ⟨.hbm, 212, rfl⟩
abbrev main_call0_v13 : Ref sig .tc := ⟨.hbm, 213, rfl⟩
abbrev main_call0_cst_4 : Ref sig .tc := ⟨.hbm, 214, rfl⟩
abbrev main_call0_call0_v0 : Ref sig .tc := ⟨.hbm, 215, rfl⟩
abbrev main_call0_call0_v1 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_cst_32 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩

abbrev nD : Nat := 1
abbrev τ : Topo := Topo.v7x

variable {F : FTy → Type} [FloatOps F]
-- ==== Proof.KBody.lean ====
/- What one block of the kernel computes: the scratch arrays the first point fills, as compositions of the
   body's payloads over the whole input arrays, and the output block after each point. -/
module

public import proofs.«01_k».proof.Proof.Gen.KernelIdeal.Frame
public import Idealize.ShloMosaic.Lib.Pipeline.Value
public import Idealize.ShloMosaic.Lib.Pipeline.ValueKit.Tiles
public import Idealize.ShloMosaic.Lib.Pipeline.ReadBack
public import Idealize.ShloMosaic.Lib.Pointwise

@[expose] public section

noncomputable section

namespace Cert.Proof

open Cert.KernelIdeal Cert.KernelIdeal.Gen Idealize.ShloMosaic Idealize.ShloMosaic.TcCoe Idealize.SL.Sem

variable {F : FTy → Type} [FloatOps F]

/-! ## Slabs of the stacked weights -/

/-- Slab `n` of a stack of four 16 by 4 matrices. -/
def slabW1 (n : Fin 4) (x : Vec F S4x16x4 .f32) : Vec F S1x16x4 .f32 := fun i => x (ix3 n (i 1) (i 2))

/-- A load of one slab of the stack reads that slab. -/
theorem ld_slabW1 (x : Vec F S4x16x4 .f32) (n : ℕ) (inb) :
    View.ld x (Rect.unit ![n, 0, 0] ![1, 16, 4] inb) = slabW1 ⟨n, by have := inb 0; simpa [Nat.succ_le_iff] using this⟩ x := by
  funext i
  refine View.ld_unit_apply_of _ _ _ _ _ _ fun a => ?_
  have h : (i 0 : ℕ) = 0 := by have := (i 0).isLt; simpa [Nat.lt_one_iff] using this
  fin_cases a
  · show n = n + (i 0 : ℕ); omega
  · exact (Nat.zero_add _).symm
  · exact (Nat.zero_add _).symm

/-- Slab `n` of a stack of four 16 by 16 matrices. -/
def slabW2 (n : Fin 4) (x : Vec F S4x16x16 .f32) : Vec F S1x16x16 .f32 := fun i => x (ix3 n (i 1) (i 2))

/-- A load of one slab of the stack reads that slab. -/
theorem ld_slabW2 (x : Vec F S4x16x16 .f32) (n : ℕ) (inb) :
    View.ld x (Rect.unit ![n, 0, 0] ![1, 16, 16] inb) = slabW2 ⟨n, by have := inb 0; simpa [Nat.succ_le_iff] using this⟩ x := by
  funext i
  refine View.ld_unit_apply_of _ _ _ _ _ _ fun a => ?_
  have h : (i 0 : ℕ) = 0 := by have := (i 0).isLt; simpa [Nat.lt_one_iff] using this
  fin_cases a
  · show n = n + (i 0 : ℕ); omega
  · exact (Nat.zero_add _).symm
  · exact (Nat.zero_add _).symm

/-- Slab `n` of a stack of four 16 by 64 matrices. -/
def slabW3 (n : Fin 4) (x : Vec F S4x16x64 .f32) : Vec F S1x16x64 .f32 := fun i => x (ix3 n (i 1) (i 2))

/-- A load of one slab of the stack reads that slab. -/
theorem ld_slabW3 (x : Vec F S4x16x64 .f32) (n : ℕ) (inb) :
    View.ld x (Rect.unit ![n, 0, 0] ![1, 16, 64] inb) = slabW3 ⟨n, by have := inb 0; simpa [Nat.succ_le_iff] using this⟩ x := by
  funext i
  refine View.ld_unit_apply_of _ _ _ _ _ _ fun a => ?_
  have h : (i 0 : ℕ) = 0 := by have := (i 0).isLt; simpa [Nat.lt_one_iff] using this
  fin_cases a
  · show n = n + (i 0 : ℕ); omega
  · exact (Nat.zero_add _).symm
  · exact (Nat.zero_add _).symm

/-- Row `n` of a stack of four rows of length 4. -/
def slabB1 (n : Fin 4) (x : Vec F S4x4 .f32) : Vec F S1x4 .f32 := fun i => x (ix2 n (i 1))

/-- A load of one row of the stack reads that row. -/
theorem ld_slabB1 (x : Vec F S4x4 .f32) (n : ℕ) (inb) :
    View.ld x (Rect.unit ![n, 0] ![1, 4] inb) = slabB1 ⟨n, by have := inb 0; simpa [Nat.succ_le_iff] using this⟩ x := by
  funext i
  refine View.ld_unit_apply_of _ _ _ _ _ _ fun a => ?_
  have h : (i 0 : ℕ) = 0 := by have := (i 0).isLt; simpa [Nat.lt_one_iff] using this
  fin_cases a
  · show n = n + (i 0 : ℕ); omega
  · exact (Nat.zero_add _).symm

/-- Row `n` of a stack of four rows of length 16. -/
def slabB2 (n : Fin 4) (x : Vec F S4x16 .f32) : Vec F S1x16 .f32 := fun i => x (ix2 n (i 1))

/-- A load of one row of the stack reads that row. -/
theorem ld_slabB2 (x : Vec F S4x16 .f32) (n : ℕ) (inb) :
    View.ld x (Rect.unit ![n, 0] ![1, 16] inb) = slabB2 ⟨n, by have := inb 0; simpa [Nat.succ_le_iff] using this⟩ x := by
  funext i
  refine View.ld_unit_apply_of _ _ _ _ _ _ fun a => ?_
  have h : (i 0 : ℕ) = 0 := by have := (i 0).isLt; simpa [Nat.lt_one_iff] using this
  fin_cases a
  · show n = n + (i 0 : ℕ); omega
  · exact (Nat.zero_add _).symm

/-- Row `n` of a stack of four rows of length 64. -/
def slabB3 (n : Fin 4) (x : Vec F S4x64 .f32) : Vec F S1x64 .f32 := fun i => x (ix2 n (i 1))

/-- A load of one row of the stack reads that row. -/
theorem ld_slabB3 (x : Vec F S4x64 .f32) (n : ℕ) (inb) :
    View.ld x (Rect.unit ![n, 0] ![1, 64] inb) = slabB3 ⟨n, by have := inb 0; simpa [Nat.succ_le_iff] using this⟩ x := by
  funext i
  refine View.ld_unit_apply_of _ _ _ _ _ _ fun a => ?_
  have h : (i 0 : ℕ) = 0 := by have := (i 0).isLt; simpa [Nat.lt_one_iff] using this
  fin_cases a
  · show n = n + (i 0 : ℕ); omega
  · exact (Nat.zero_add _).symm

/-- The offset of a whole-array access of rank two. -/
theorem off2 : (![0, 0] : Fin 2 → ℕ) = fun _ => 0 := by decide

/-- The offset of a whole-array access of rank three. -/
theorem off3 : (![0, 0, 0] : Fin 3 → ℕ) = fun _ => 0 := by decide

/-- A load of the whole array reads the array. -/
theorem ld_S2048x1024 (x : Vec F S2048x1024 .f32) (inb) : View.ld x (Rect.unit ![0, 0] ![2048, 1024] inb) = x := View.ld_unit_zero off2 _ x

/-- A load of the whole array reads the array. -/
theorem ld_S1024x64 (x : Vec F S1024x64 .f32) (inb) : View.ld x (Rect.unit ![0, 0] ![1024, 64] inb) = x := View.ld_unit_zero off2 _ x

/-- A load of the whole array reads the array. -/
theorem ld_S1x64 (x : Vec F S1x64 .f32) (inb) : View.ld x (Rect.unit ![0, 0] ![1, 64] inb) = x := View.ld_unit_zero off2 _ x

/-- A load of the whole array reads the array. -/
theorem ld_S1x4 (x : Vec F S1x4 .f32) (inb) : View.ld x (Rect.unit ![0, 0] ![1, 4] inb) = x := View.ld_unit_zero off2 _ x

/-- A load of the whole array reads the array. -/
theorem ld_S1024x2048 (x : Vec F S1024x2048 .f32) (inb) : View.ld x (Rect.unit ![0, 0] ![1024, 2048] inb) = x := View.ld_unit_zero off2 _ x

/-- A load of the whole array reads the array. -/
theorem ld_S1024x1 (x : Vec F S1024x1 .f32) (inb) : View.ld x (Rect.unit ![0, 0] ![1024, 1] inb) = x := View.ld_unit_zero off2 _ x

/-- A load of a whole block of rank three reads the block. -/
theorem ld_S1x1024x1024 (x : Vec F S1x1024x1024 .f32) (inb) : View.ld x (Rect.unit ![0, 0, 0] ![1, 1024, 1024] inb) = x :=
  View.ld_unit_zero off3 _ x

/-! ## The values the first point computes -/

/-- The 64 colour features of every row. -/
def colV (x : Vec F S2048x1024 .f32) (w : Vec F S1024x64 .f32) (b : Vec F S1x64 .f32) : FVec F S2048x64 .bf16 := k0_pay8 x w b

/-- The first level's mixed logits. -/
def r1V (x : Vec F S2048x1024 .f32) (w : Vec F S1024x64 .f32) (b : Vec F S1x64 .f32)
    (W : Vec F S4x16x4 .f32) (bb : Vec F S4x4 .f32) (bw : Vec F S1x4 .f32) : FVec F S2048x4 .f32 :=
  k0_pay16
    (k0_pay13 (colV x w b) (k0_pay9 bw) k0_pay10 (k0_pay11 x w b (slabW1 0 W)) (k0_pay12 (slabB1 0 bb))
      (slabW1 1 W) (slabB1 1 bb) (slabW1 2 W) (slabB1 2 bb))
    (k0_pay14 (k0_pay9 bw)) (k0_pay15 (colV x w b) (slabW1 3 W) (slabB1 3 bb))

/-- The second level's mixed logits. -/
def r2V (v : FVec F S2048x64 .bf16) (W : Vec F S4x16x16 .f32) (bb : Vec F S4x16 .f32) (bw : Vec F S1x4 .f32) :
    FVec F S2048x16 .f32 :=
  k0_pay20 v (k0_pay17 bw) (k0_pay18 v bw (slabW2 0 W) (slabB2 0 bb) (slabW2 1 W) (slabB2 1 bb)) (k0_pay19 v)
    (slabW2 2 W) (slabB2 2 bb) (slabW2 3 W) (slabB2 3 bb)

/-- The third level's mixed logits. -/
def r3V (v : FVec F S2048x64 .bf16) (W : Vec F S4x16x64 .f32) (bb : Vec F S4x64 .f32) (bw : Vec F S1x4 .f32) :
    FVec F S2048x64 .f32 :=
  k0_pay27 (k0_pay21 bw)
    (k0_pay25 v (k0_pay21 bw) k0_pay22 (k0_pay23 v) (k0_pay24 (slabW3 0 W)) (slabB3 0 bb)
      (slabW3 1 W) (slabB3 1 bb) (slabW3 2 W) (slabB3 2 bb))
    (k0_pay26 v (slabW3 3 W)) (slabB3 3 bb)

/-- The 16 by 16 matrix of ones where row and column lie in the same group of four. -/
def grp16 : FVec F S16x16 .bf16 :=
  k0_pay32 (iota Kind.tc S16x16 32 [1] iota_S16x16_d1_w32) k0_pay29 4#32 k0_pay30 k0_pay31

/-- The 64 by 64 matrix of ones where row and column lie in the same group of four. -/
def grp64 : FVec F S64x64 .bf16 :=
  k0_pay38 (iota Kind.tc S64x64 32 [1] iota_S64x64_d1_w32) k0_pay35 4#32 k0_pay36 k0_pay37

/-- The second level's joint weights. -/
def j2V (r1 : FVec F S2048x4 .f32) (r2 : FVec F S2048x16 .f32) : FVec F S2048x16 .f32 :=
  k0_pay34 r2 (k0_pay28 r1) grp16 k0_pay33

/-- The third level's joint weights, transposed. -/
def j3V (r3 : FVec F S2048x64 .f32) (j2 : FVec F S2048x16 .f32) : FVec F S64x2048 .f32 :=
  k0_pay40 r3 j2 grp64 k0_pay39

/-- The joint weights of the third level over the input arrays. -/
def jV (x : Vec F S2048x1024 .f32) (w : Vec F S1024x64 .f32) (b : Vec F S1x64 .f32)
    (W1 : Vec F S4x16x4 .f32) (b1 : Vec F S4x4 .f32) (w1 : Vec F S1x4 .f32)
    (W2 : Vec F S4x16x16 .f32) (b2 : Vec F S4x16 .f32) (w2 : Vec F S1x4 .f32)
    (W3 : Vec F S4x16x64 .f32) (b3 : Vec F S4x64 .f32) (w3 : Vec F S1x4 .f32) : FVec F S64x2048 .f32 :=
  j3V (r3V (colV x w b) W3 b3 w3) (j2V (r1V x w b W1 b1 w1) (r2V (colV x w b) W2 b2 w2))

/-- The joint weights rounded for the closing matrix product. -/
def jbV (J : FVec F S64x2048 .f32) : Vec F S64x2048 .bf16 := truncf .bf16 J bitsLt_bf16_f32

/-- Every row of the joint weights eight times. -/
def rowsV (J : FVec F S64x2048 .f32) : Vec F S64x8x2048 .f32 := fun i => J (ix2 (i 0) (i 2))

/-- What a store into one of the eight copies holds is that copy of the joint weights. -/
theorem rows_piece (J : FVec F S64x2048 .f32) (n : ℕ) (inb : ∀ a, ![0, n, 0] a + S64x1x2048.size a ≤ S64x8x2048.size a)
    (x : (Rect.unit (s := S64x8x2048) ![0, n, 0] S64x1x2048.size inb).shape.Idx) :
    shapeCast S64x1x2048 J shapeCasts_S64x2048_S64x1x2048 x
      = rowsV J ((Rect.unit (s := S64x8x2048) ![0, n, 0] S64x1x2048.size inb).emb x) := by
  obtain ⟨a, b, c, rfl⟩ : ∃ (a : Fin 64) (b : Fin 1) (c : Fin 2048), x = ix3 a b c := ⟨x 0, x 1, x 2, eq_ix3 x⟩
  have e : shapeCast S64x1x2048 J shapeCasts_S64x2048_S64x1x2048 (ix3 a b c) = J (ix2 a c) := by pointwise
  rw [e]
  refine congrArg J (funext fun k => Fin.ext ?_)
  fin_cases k
  · exact (((Rect.idx_unit_val _ _ inb _ 0).trans (Nat.zero_add _))).symm
  · exact (((Rect.idx_unit_val _ _ inb _ 2).trans (Nat.zero_add _))).symm

/-- The eight stores of the copies. -/
def rowPieces (J : FVec F S64x2048 .f32) : List (View.Piece (Elt F) S64x8x2048 .f32) :=
  [⟨Rect.unit ![0, 7, 0] S64x1x2048.size inb_S64x8x2048_S64x1x2048_0_7_0, shapeCast S64x1x2048 J shapeCasts_S64x2048_S64x1x2048⟩,
   ⟨Rect.unit ![0, 6, 0] S64x1x2048.size inb_S64x8x2048_S64x1x2048_0_6_0, shapeCast S64x1x2048 J shapeCasts_S64x2048_S64x1x2048⟩,
   ⟨Rect.unit ![0, 5, 0] S64x1x2048.size inb_S64x8x2048_S64x1x2048_0_5_0, shapeCast S64x1x2048 J shapeCasts_S64x2048_S64x1x2048⟩,
   ⟨Rect.unit ![0, 4, 0] S64x1x2048.size inb_S64x8x2048_S64x1x2048_0_4_0, shapeCast S64x1x2048 J shapeCasts_S64x2048_S64x1x2048⟩,
   ⟨Rect.unit ![0, 3, 0] S64x1x2048.size inb_S64x8x2048_S64x1x2048_0_3_0, shapeCast S64x1x2048 J shapeCasts_S64x2048_S64x1x2048⟩,
   ⟨Rect.unit ![0, 2, 0] S64x1x2048.size inb_S64x8x2048_S64x1x2048_0_2_0, shapeCast S64x1x2048 J shapeCasts_S64x2048_S64x1x2048⟩,
   ⟨Rect.unit ![0, 1, 0] S64x1x2048.size inb_S64x8x2048_S64x1x2048_0_1_0, shapeCast S64x1x2048 J shapeCasts_S64x2048_S64x1x2048⟩,
   ⟨Rect.unit ![0, 0, 0] S64x1x2048.size inb_S64x8x2048_S64x1x2048_0_0_0, shapeCast S64x1x2048 J shapeCasts_S64x2048_S64x1x2048⟩]

/-- The eight stores cover the array. -/
theorem rowPieces_cover (J : FVec F S64x2048 .f32) (y : S64x8x2048.Idx) : ∃ p ∈ rowPieces J, y ∈ p.1.set :=
  View.cover_of_tiledL (rowPieces J) ![64, 1, 2048] (by sl_kernel_rfl) y

/-- The eight stores leave the joint weights eight times. -/
theorem canon_rowPieces (J : FVec F S64x2048 .f32) : View.canon (rowPieces J) = rowsV J := by
  funext y
  refine View.canon_apply_of_pieces (rowsV J) _ ?_ y (rowPieces_cover J y)
  simp only [rowPieces, List.forall_mem_cons]
  exact ⟨rows_piece J _ _, rows_piece J _ _, rows_piece J _ _, rows_piece J _ _, rows_piece J _ _, rows_piece J _ _,
    rows_piece J _ _, rows_piece J _ _, fun p hp => absurd hp List.not_mem_nil⟩

/-! ## The points -/

variable (m : (ℓ : Loc nD τ sig) → Buf (Elt F) ℓ)

/-- The joint weights a point's blocks give. -/
def jAt (c : Dev nD) (t : Fin cfg0.N) : FVec F S64x2048 .f32 :=
  jV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The row of the copies a point loads. -/
def rowAt (J : FVec F S64x2048 .f32) (t : Fin cfg0.N) : Vec F S1x8x2048 .f32 :=
  View.ld (rowsV J) (Rect.unit (s := S64x8x2048) (k0_off1 (grid0.coords t)) S1x8x2048.size (k0_off1_inb _))

set_option maxHeartbeats 1000000 in
/-- After the first point the first scratch array holds the transposed rows, rounded. -/
theorem first_xt (c : Dev nD) (t : Fin cfg0.N) (h0 : t.val % 64 = 0) (h1 : ¬ t.val % 64 = 63) :
    (outsAt0 m c t.val t.isLt).2.1 = k0_pay7 (iblk m c 16 t) := by
  rw [outsAt0_A m c t h0 h1]
  dsimp only
  unfold sout0_A_0
  refine (View.read_writes_eq_canon _ _ _ fun y => ?_).trans ?_
  · apply scover0_A_0
  unfold kernelRun0_A
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, ld_slabW1, ld_slabW2, ld_slabW3, ld_slabB1, ld_slabB2, ld_slabB3, ld_S2048x1024, ld_S1024x64, ld_S1x64, ld_S1x4, ld_S1024x2048, ld_S1024x1, ld_S1x1024x1024]
  exact View.canon_unit_zero off2 _ _

set_option maxHeartbeats 1000000 in
/-- After the first point the second scratch array holds the joint weights, rounded. -/
theorem first_j (c : Dev nD) (t : Fin cfg0.N) (h0 : t.val % 64 = 0) (h1 : ¬ t.val % 64 = 63) :
    (outsAt0 m c t.val t.isLt).2.2.1 = jbV (jAt m c t) := by
  rw [outsAt0_A m c t h0 h1]
  dsimp only
  unfold sout0_A_1
  refine (View.read_writes_eq_canon _ _ _ fun y => ?_).trans ?_
  · apply scover0_A_1
  unfold kernelRun0_A
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, ld_slabW1, ld_slabW2, ld_slabW3, ld_slabB1, ld_slabB2, ld_slabB3, ld_S2048x1024, ld_S1024x64, ld_S1x64, ld_S1x4, ld_S1024x2048, ld_S1024x1, ld_S1x1024x1024]
  refine (View.canon_unit_zero off2 _ _).trans ?_
  exact shapeCast_self _ _

set_option maxHeartbeats 1000000 in
/-- After the first point the third scratch array holds the joint weights eight times. -/
theorem first_rows (c : Dev nD) (t : Fin cfg0.N) (h0 : t.val % 64 = 0) (h1 : ¬ t.val % 64 = 63) :
    (outsAt0 m c t.val t.isLt).2.2.2 = rowsV (jAt m c t) := by
  rw [outsAt0_A m c t h0 h1]
  dsimp only
  unfold sout0_A_2
  refine (View.read_writes_eq_canon _ _ _ fun y => ?_).trans ?_
  · apply scover0_A_2
  unfold kernelRun0_A
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, ld_slabW1, ld_slabW2, ld_slabW3, ld_slabB1, ld_slabB2, ld_slabB3, ld_S2048x1024, ld_S1024x64, ld_S1x64, ld_S1x4, ld_S1024x2048, ld_S1024x1, ld_S1x1024x1024]
  exact canon_rowPieces (jAt m c t)

set_option maxHeartbeats 1000000 in
/-- The output block after the first point: the first expert's share. -/
theorem first_out (c : Dev nD) (t : Fin cfg0.N) (h0 : t.val % 64 = 0) (h1 : ¬ t.val % 64 = 63) :
    (outsAt0 m c t.val t.isLt).1
      = k0_pay5 (iblk m c 12 t) (k0_pay7 (iblk m c 16 t)) (rowAt (jAt m c t) t) k0_pay4 := by
  rw [outsAt0_A m c t h0 h1]
  dsimp only
  unfold out0_A_17
  refine (View.read_writes_eq_canon _ _ _ fun y => ?_).trans ?_
  · apply cover0_A_17
  unfold kernelRun0_A
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, ld_slabW1, ld_slabW2, ld_slabW3, ld_slabB1, ld_slabB2, ld_slabB3, ld_S2048x1024, ld_S1024x64, ld_S1x64, ld_S1x4, ld_S1024x2048, ld_S1024x1, ld_S1x1024x1024]
  refine (View.canon_cons_unit_zero off2 _ _ _).trans ?_
  have e1 := View.readCov_unit_zero (Val := Elt F) VS0_0 off2 inb_S1024x2048_S1024x2048_0_0 (k0_pay7 (iblk m c 16 t))
  have e3 := View.readCov_unit_zero (Val := Elt F) (ms0_17 t).view off2 inb_S1024x2048_S1024x2048_0_0 (k0_pay4 (F := F))
  have e2 := (View.readCov_eq_canon_ld (Val := Elt F) VS0_2 (rowPieces (jAt m c t))
    (Rect.unit (s := S64x8x2048) (k0_off1 (grid0.coords t)) S1x8x2048.size (k0_off1_inb _)) (rowPieces_cover _)).trans
      (congrArg (fun X => View.ld X _) (canon_rowPieces _))
  exact congr (congr (congrArg (k0_pay5 (iblk m c 12 t)) e1) e2) e3

set_option maxHeartbeats 1000000 in
/-- The output block after a later point that is not the last: what the point before left and this expert's share. -/
theorem next_out (c : Dev nD) (t : Fin cfg0.N) (h0 : ¬ t.val % 64 = 0) (h1 : ¬ t.val % 64 = 63)
    (p : Vec F S1024x2048 .f32 × Vec F S1024x2048 .fp8e4m3 × Vec F S64x2048 .bf16 × Vec F S64x8x2048 .f32)
    (hp : outsAt0 m c (t.val - 1) (by omega) = p) (J : FVec F S64x2048 .f32) (hJ : p.2.2.2 = rowsV J) :
    outsAt0 m c t.val t.isLt = (k0_pay5 (iblk m c 12 t) p.2.1 (rowAt J t) p.1, p.2) := by
  rw [outsAt0_B m c t h0 h1, hp]
  refine Prod.ext ?_ rfl
  dsimp only
  unfold out0_B_17
  refine (View.read_writes_eq_canon _ _ _ fun y => ?_).trans ?_
  · apply cover0_B_17
  unfold kernelRun0_B
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ld_slabW1, ld_slabW2, ld_slabW3, ld_slabB1, ld_slabB2, ld_slabB3, ld_S2048x1024, ld_S1024x64, ld_S1x64, ld_S1x4, ld_S1024x2048, ld_S1024x1, ld_S1x1024x1024, hJ]
  exact (View.canon_unit_zero off2 _ _).trans (congrArg (fun X => k0_pay5 (iblk m c 12 t) X (rowAt J t) p.1) (View.ld_unit_zero off2 _ _))

set_option maxHeartbeats 1000000 in
/-- The output block after the last point: the closing of the layer on what the point before left and the last
    expert's share. -/
theorem last_out (c : Dev nD) (t : Fin cfg0.N) (h0 : ¬ t.val % 64 = 0) (h1 : t.val % 64 = 63)
    (p : Vec F S1024x2048 .f32 × Vec F S1024x2048 .fp8e4m3 × Vec F S64x2048 .bf16 × Vec F S64x8x2048 .f32)
    (hp : outsAt0 m c (t.val - 1) (by omega) = p) (J : FVec F S64x2048 .f32) (hJ : p.2.2.2 = rowsV J) :
    (outsAt0 m c t.val t.isLt).1
      = k0_pay6 (k0_pay47 (k0_pay5 (iblk m c 12 t) p.2.1 (rowAt J t) p.1) (iblk m c 13 t) p.2.2.1 (iblk m c 16 t))
          (iblk m c 14 t) (iblk m c 15 t) := by
  rw [outsAt0_C m c t h0 h1, hp]
  dsimp only
  unfold out0_C_17
  refine (View.read_writes_eq_canon _ _ _ fun y => ?_).trans ?_
  · apply cover0_C_17
  unfold kernelRun0_C
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ld_slabW1, ld_slabW2, ld_slabW3, ld_slabB1, ld_slabB2, ld_slabB3, ld_S2048x1024, ld_S1024x64, ld_S1x64, ld_S1x4, ld_S1024x2048, ld_S1024x1, ld_S1x1024x1024, hJ]
  refine (View.canon_cons_unit_zero off2 _ _ _).trans ?_
  have e0 := View.ld_unit_zero (Val := Elt F) off2 inb_S1024x2048_S1024x2048_0_0 p.2.1
  have e1 := View.readCov_unit_zero (Val := Elt F) (ms0_17 t).view off2 inb_S1024x2048_S1024x2048_0_0
    (k0_pay5 (iblk m c 12 t) p.2.1 (rowAt J t) p.1)
  have e2 := View.ld_unit_zero (Val := Elt F) off2 inb_S64x2048_S64x2048_0_0 p.2.2.1
  refine congrArg (fun X => k0_pay6 X (iblk m c 14 t) (iblk m c 15 t)) ?_
  refine congrFun (congr (congrFun (congrArg k0_pay47 ?_) (iblk m c 13 t)) e2) (iblk m c 16 t)
  refine Eq.trans ?_ e1
  exact congrArg (fun X => (ms0_17 t).view.readCov [(⟨Rect.unit ![0, 0] S1024x2048.size inb_S1024x2048_S1024x2048_0_0,
    k0_pay5 (iblk m c 12 t) X (rowAt J t) p.1⟩ : View.Piece (Elt F) S1024x2048 .f32)] _) e0

end Cert.Proof
-- ==== Proof.KRun.lean ====
/- What the kernel's arrays hold: the blocks the points read, as the entry arrays; the output array after the run; the
   result after the host operations that follow. -/
module

public import proofs.«01_k».proof.Proof.KBody
public import Idealize.ShloMosaic.Lib.Pipeline.ValueKit.Geometry
public import Idealize.ShloMosaic.Lib.Claim

@[expose] public section

noncomputable section

namespace Cert.Proof

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The blocks -/

/-- Window 0 stages its whole array at every point. -/
theorem iblk_0 (c : Dev nD) (t : Fin cfg0.N) : iblk m c 0 t = V m c main_v0 := by
  have idx : ∀ t : Fin cfg0.N, win0_0.index t = ![0, 0] := by decide +kernel
  funext y
  blk_ext [iblk, idx t]

/-- Window 1 stages its whole array at every point. -/
theorem iblk_1 (c : Dev nD) (t : Fin cfg0.N) : iblk m c 1 t = V m c main_arg1 := by
  have idx : ∀ t : Fin cfg0.N, win0_1.index t = ![0, 0] := by decide +kernel
  funext y
  blk_ext [iblk, idx t]

/-- Window 2 stages its whole array at every point. -/
theorem iblk_2 (c : Dev nD) (t : Fin cfg0.N) : iblk m c 2 t = V m c main_v1 := by
  have idx : ∀ t : Fin cfg0.N, win0_2.index t = ![0, 0] := by decide +kernel
  funext y
  blk_ext [iblk, idx t]

/-- Window 3 stages its whole array at every point. -/
theorem iblk_3 (c : Dev nD) (t : Fin cfg0.N) : iblk m c 3 t = V m c main_arg3 := by
  have idx : ∀ t : Fin cfg0.N, win0_3.index t = ![0, 0, 0] := by decide +kernel
  funext y
  blk_ext [iblk, idx t]

/-- Window 4 stages its whole array at every point. -/
theorem iblk_4 (c : Dev nD) (t : Fin cfg0.N) : iblk m c 4 t = V m c main_arg4 := by
  have idx : ∀ t : Fin cfg0.N, win0_4.index t = ![0, 0] := by decide +kernel
  funext y
  blk_ext [iblk, idx t]

/-- Window 5 stages its whole array at every point. -/
theorem iblk_5 (c : Dev nD) (t : Fin cfg0.N) : iblk m c 5 t = V m c main_v2 := by
  have idx : ∀ t : Fin cfg0.N, win0_5.index t = ![0, 0] := by decide +kernel
  funext y
  blk_ext [iblk, idx t]

/-- Window 6 stages its whole array at every point. -/
theorem iblk_6 (c : Dev nD) (t : Fin cfg0.N) : iblk m c 6 t = V m c main_arg6 := by
  have idx : ∀ t : Fin cfg0.N, win0_6.index t = ![0, 0, 0] := by decide +kernel
  funext y
  blk_ext [iblk, idx t]

/-- Window 7 stages its whole array at every point. -/
theorem iblk_7 (c : Dev nD) (t : Fin cfg0.N) : iblk m c 7 t = V m c main_arg7 := by
  have idx : ∀ t : Fin cfg0.N, win0_7.index t = ![0, 0] := by decide +kernel
  funext y
  blk_ext [iblk, idx t]

/-- Window 8 stages its whole array at every point. -/
theorem iblk_8 (c : Dev nD) (t : Fin cfg0.N) : iblk m c 8 t = V m c main_v3 := by
  have idx : ∀ t : Fin cfg0.N, win0_8.index t = ![0, 0] := by decide +kernel
  funext y
  blk_ext [iblk, idx t]

/-- Window 9 stages its whole array at every point. -/
theorem iblk_9 (c : Dev nD) (t : Fin cfg0.N) : iblk m c 9 t = V m c main_arg9 := by
  have idx : ∀ t : Fin cfg0.N, win0_9.index t = ![0, 0, 0] := by decide +kernel
  funext y
  blk_ext [iblk, idx t]

/-- Window 10 stages its whole array at every point. -/
theorem iblk_10 (c : Dev nD) (t : Fin cfg0.N) : iblk m c 10 t = V m c main_arg10 := by
  have idx : ∀ t : Fin cfg0.N, win0_10.index t = ![0, 0] := by decide +kernel
  funext y
  blk_ext [iblk, idx t]

/-- Window 11 stages its whole array at every point. -/
theorem iblk_11 (c : Dev nD) (t : Fin cfg0.N) : iblk m c 11 t = V m c main_v4 := by
  have idx : ∀ t : Fin cfg0.N, win0_11.index t = ![0, 0] := by decide +kernel
  funext y
  blk_ext [iblk, idx t]

/-- Window 13 stages its whole array at every point. -/
theorem iblk_13 (c : Dev nD) (t : Fin cfg0.N) : iblk m c 13 t = V m c main_v5 := by
  have idx : ∀ t : Fin cfg0.N, win0_13.index t = ![0, 0] := by decide +kernel
  funext y
  blk_ext [iblk, idx t]

/-- Window 14 stages its whole array at every point. -/
theorem iblk_14 (c : Dev nD) (t : Fin cfg0.N) : iblk m c 14 t = V m c main_v6 := by
  have idx : ∀ t : Fin cfg0.N, win0_14.index t = ![0, 0] := by decide +kernel
  funext y
  blk_ext [iblk, idx t]

/-- Window 15 stages its whole array at every point. -/
theorem iblk_15 (c : Dev nD) (t : Fin cfg0.N) : iblk m c 15 t = V m c main_v7 := by
  have idx : ∀ t : Fin cfg0.N, win0_15.index t = ![0, 0] := by decide +kernel
  funext y
  blk_ext [iblk, idx t]

/-- Window 16 stages its whole array at every point. -/
theorem iblk_16 (c : Dev nD) (t : Fin cfg0.N) : iblk m c 16 t = V m c main_v8 := by
  have idx : ∀ t : Fin cfg0.N, win0_16.index t = ![0, 0] := by decide +kernel
  funext y
  blk_ext [iblk, idx t]

/-- Window 12 stages matrix `t` of the stack at point `t`. -/
theorem iblk_12 (c : Dev nD) (t : Fin cfg0.N) (d e : Fin 1024) :
    iblk m c 12 t (ix3 0 d e) = V m c main_arg12 (ix3 (t.cast N_0) d e) := by
  have idx : ∀ t : Fin cfg0.N, win0_12.index t = ![t.val, 0, 0] := by decide +kernel
  have ht : (t.cast N_0).val = t.val := rfl
  blk_ext [iblk, idx t]

/-! ## The entry arrays -/

/-- The rows, reshaped. -/
theorem V_v0 (c : Dev nD) : V m c main_v0 = shapeCast S2048x1024 (m ((c : Thread nD τ).loc main_arg0)) shapeCasts_S1x2048x1024_S2048x1024 := by
  unfold_abbrev_sides
  simp only [V0, hostOps0, List.flatten_cons, List.flatten_nil, List.append_nil]
  after_results
  rfl

/-- The colour bias, reshaped. -/
theorem V_v1 (c : Dev nD) : V m c main_v1 = shapeCast S1x64 (m ((c : Thread nD τ).loc main_arg2)) shapeCasts_S64_S1x64 := by
  unfold_abbrev_sides
  simp only [V0, hostOps0, List.flatten_cons, List.flatten_nil, List.append_nil]
  after_results
  rfl

/-- The first level's branch logits, reshaped. -/
theorem V_v2 (c : Dev nD) : V m c main_v2 = shapeCast S1x4 (m ((c : Thread nD τ).loc main_arg5)) shapeCasts_S4_S1x4 := by
  unfold_abbrev_sides
  simp only [V0, hostOps0, List.flatten_cons, List.flatten_nil, List.append_nil]
  after_results
  rfl

/-- The second level's branch logits, reshaped. -/
theorem V_v3 (c : Dev nD) : V m c main_v3 = shapeCast S1x4 (m ((c : Thread nD τ).loc main_arg8)) shapeCasts_S4_S1x4 := by
  unfold_abbrev_sides
  simp only [V0, hostOps0, List.flatten_cons, List.flatten_nil, List.append_nil]
  after_results
  rfl

/-- The third level's branch logits, reshaped. -/
theorem V_v4 (c : Dev nD) : V m c main_v4 = shapeCast S1x4 (m ((c : Thread nD τ).loc main_arg11)) shapeCasts_S4_S1x4 := by
  unfold_abbrev_sides
  simp only [V0, hostOps0, List.flatten_cons, List.flatten_nil, List.append_nil]
  after_results
  rfl

/-- The scale, reshaped. -/
theorem V_v6 (c : Dev nD) : V m c main_v6 = shapeCast S1024x1 (m ((c : Thread nD τ).loc main_arg14)) shapeCasts_S1024_S1024x1 := by
  unfold_abbrev_sides
  simp only [V0, hostOps0, List.flatten_cons, List.flatten_nil, List.append_nil]
  after_results
  rfl

/-- The shift, reshaped. -/
theorem V_v7 (c : Dev nD) : V m c main_v7 = shapeCast S1024x1 (m ((c : Thread nD τ).loc main_arg15)) shapeCasts_S1024_S1024x1 := by
  unfold_abbrev_sides
  simp only [V0, hostOps0, List.flatten_cons, List.flatten_nil, List.append_nil]
  after_results
  rfl

/-- The expert biases, transposed. -/
theorem V_v5 (c : Dev nD) :
    V m c main_v5 = transpose S1024x64 [1, 0] (m ((c : Thread nD τ).loc main_arg13)) transposes_S64x1024_S1024x64_1_0 := by
  unfold_abbrev_sides
  simp only [V0, hostOps0, List.flatten_cons, List.flatten_nil, List.append_nil]
  after_results

/-- The rows, transposed. -/
theorem V_v8 (c : Dev nD) :
    V m c main_v8 = transpose S1024x2048 [1, 0] (V m c main_v0) transposes_S2048x1024_S1024x2048_1_0 := by
  rw [V_v0]
  unfold_abbrev_sides
  simp only [V0, hostOps0, List.flatten_cons, List.flatten_nil, List.append_nil]
  after_results
  rfl

/-! ## The result -/

/-- The last point. -/
def last : Fin cfg0.N := ⟨63, lt_of_lt_of_eq (by decide : 63 < 64) (show cfg0.N = 64 from N_0).symm⟩

/-- The output array after the run is what the last point leaves in its block. -/
theorem arr_out (c : Dev nD) : (dats m 0 c).arrAt 17 cfg0.N = (outsAt0 m c last.val last.isLt).1 := by
  funext i
  refine ((dats m 0 c).arrAt_emb_eq_after_last 17 last (by decide +kernel) i).trans ?_
  rw [after0_17]
  blk_simp
  rfl

/-- The array the program returns. -/
def result (c : Dev nD) : Vec F S1x2048x1024 .f32 :=
  shapeCast S1x2048x1024
    (transpose S2048x1024 [1, 0] (outsAt0 m c last.val last.isLt).1 transposes_S1024x2048_S2048x1024_1_0)
    shapeCasts_S2048x1024_S1x2048x1024

/-- The host operations after the region leave the result. -/
theorem tail_result (c : Dev nD) : Pipeline.afterTail₀ cfgs (dats m) 0 (V0 m) [hostOps1] c main_v11 = result m c := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v9)
      = (outsAt0 m c last.val last.isLt).1 :=
    (Pipeline.withArrays_arr spec0 (by decide) c (V0 m c) (fun w => (dats m 0 c).arrAt w cfg0.N) 17).trans (arr_out m c)
  rw [e]
  rfl

/-- The program terminates with its result holding `result` and its arguments unchanged. -/
theorem run : θ_run defs (onTc (τ := τ) (main (F := F))) ⟨m, fun _ => 0, ρ⟩ (fun r => ∀ c : Dev nD,
    r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_v11 (Pipeline.mem_restRefs_of main_v11 (by decide) (by decide))).trans (tail_result m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).2 main_arg5 (Pipeline.mem_restRefs_of main_arg5 (by decide) (by decide))).trans (W_main_arg5 m (dats m) c),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).2 main_arg8 (Pipeline.mem_restRefs_of main_arg8 (by decide) (by decide))).trans (W_main_arg8 m (dats m) c),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).2 main_arg11 (Pipeline.mem_restRefs_of main_arg11 (by decide) (by decide))).trans (W_main_arg11 m (dats m) c),
    ((h c).1 12).trans (((dats m 0 c).arrAt_in 12 rfl _).trans ((A_eq m c 12).trans (V_main_arg12 m c))),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c)⟩)
    (run_main m ρ)

end Cert.Proof
-- ==== Proof.Spec.lean ====
/- The mathematics both programs compute, as functions on the extended reals: the routing weights of one
   row, the mixture of the 64 experts they weight, and the layer norm that closes the row. -/
module

public import Idealize.ShloMosaic.Lib.Pointwise
public import Idealize.ShloMosaic.PureOps.Ideal.Laws

@[expose] public section

noncomputable section

namespace Cert.Proof

open Idealize.ShloMosaic

/-- The largest value of a finite family, `⊥` for the empty one. -/
def maxOf {n : ℕ} (f : Fin n → EReal) : EReal := Finset.fold max ⊥ f Finset.univ

/-- Softmax with the family's maximum subtracted before the exponential. -/
def softmax {n : ℕ} (f : Fin n → EReal) (i : Fin n) : EReal :=
  Ideal.div (Ideal.exp (f i - maxOf f)) (∑ j, Ideal.exp (f j - maxOf f))

/-- The share of one exponential in the sum of all of them, no maximum subtracted. -/
def expShare {n : ℕ} (f : Fin n → EReal) (i : Fin n) : EReal :=
  Ideal.div (Ideal.exp (f i)) (∑ j, Ideal.exp (f j))

/-- Entry `d` of block `n` when 64 entries are cut into four blocks of 16. -/
def blk (n : Fin 4) (d : Fin 16) : Fin 64 := ⟨n * 16 + d, by omega⟩

/-- The colour of one row: its projection to 64 entries, biased, through the hyperbolic tangent. -/
def colour (x : Fin 1024 → EReal) (W : Fin 1024 → Fin 64 → EReal) (b : Fin 64 → EReal) (e : Fin 64) : EReal :=
  Ideal.tanh (∑ d, x d * W d e + b e)

/-- One level's logits: each block of the colour through its own gate, the four gates mixed by softmax weights. -/
def level {K : ℕ} (c : Fin 64 → EReal) (W : Fin 4 → Fin 16 → Fin K → EReal) (b : Fin 4 → Fin K → EReal)
    (w : Fin 4 → EReal) (k : Fin K) : EReal :=
  ∑ n, softmax w n * Ideal.logistic (∑ d, c (blk n d) * W n d k + b n k)

/-- The `4 m` weights below `m` parents: the parent's weight times the softmax of the logits in its group of four. -/
def child {m K : ℕ} (h : K = m * 4) (p : Fin m → EReal) (r : Fin K → EReal) (k : Fin K) : EReal :=
  p ⟨k / 4, by omega⟩ * softmax (fun j : Fin 4 => r ⟨k / 4 * 4 + j, by omega⟩) ⟨k % 4, by omega⟩

/-- The joint weights of the 64 experts for a row with colour `c`. -/
def route (c : Fin 64 → EReal)
    (W1 : Fin 4 → Fin 16 → Fin 4 → EReal) (b1 : Fin 4 → Fin 4 → EReal) (w1 : Fin 4 → EReal)
    (W2 : Fin 4 → Fin 16 → Fin 16 → EReal) (b2 : Fin 4 → Fin 16 → EReal) (w2 : Fin 4 → EReal)
    (W3 : Fin 4 → Fin 16 → Fin 64 → EReal) (b3 : Fin 4 → Fin 64 → EReal) (w3 : Fin 4 → EReal) : Fin 64 → EReal :=
  child (m := 16) rfl (child (m := 4) rfl (softmax (level c W1 b1 w1)) (level c W2 b2 w2)) (level c W3 b3 w3)

/-- The experts' outputs for the row `x`, mixed by the weights `j`, biases included. -/
def mix (j : Fin 64 → EReal) (x : Fin 1024 → EReal) (We : Fin 64 → Fin 1024 → Fin 1024 → EReal)
    (be : Fin 64 → Fin 1024 → EReal) (o : Fin 1024) : EReal :=
  ∑ k, j k * (∑ d, x d * We k d o) + ∑ k, j k * be k o

/-- The tanh form of the Gaussian error linear unit. -/
def gelu (h : EReal) : EReal :=
  h * (Ideal.ofBits .f32 1056964608#32 *
    (1 + Ideal.tanh (Ideal.ofBits .f32 1061962282#32 * (h + Ideal.ofBits .f32 1027024659#32 * (h * h * h)))))

/-- The mean of a row of 1024 entries. -/
def mean (y : Fin 1024 → EReal) : EReal := Ideal.div (∑ o, y o) (Ideal.ofBits .f32 1149239296#32)

/-- The mean square deviation of a row from its mean. -/
def variance (y : Fin 1024 → EReal) : EReal :=
  Ideal.div (∑ o, (y o - mean y) * (y o - mean y)) (Ideal.ofBits .f32 1149239296#32)

/-- The row normalized to mean zero and variance one, then scaled and shifted. -/
def norm (y g b : Fin 1024 → EReal) (o : Fin 1024) : EReal :=
  Ideal.div (y o - mean y) (Ideal.sqrt (variance y + Ideal.ofBits .f32 925353388#32)) * g o + b o

end Cert.Proof
-- ==== Proof.Algebra.lean ====
/- Facts about the extended reals that carry the kernel's way of computing each step to the reference's:
   a softmax without the maximum, a group's sum through a matrix of ones, a reciprocal square root. -/
module

public import proofs.«01_k».proof.Proof.Spec

@[expose] public section

noncomputable section

namespace Cert.Proof

open Idealize.ShloMosaic

/-! ## The constants -/

/-- The pattern of minus infinity is the least extended real. -/
theorem ofBits_neg_inf : Ideal.ofBits .f32 4286578688#32 = ⊥ := by
  simp [Ideal.ofBits, Ideal.ieee]

/-- The pattern of 1024 is positive. -/
theorem ofBits_width_pos : 0 < Ideal.ofBits .f32 1149239296#32 := by
  simp [Ideal.ofBits, Ideal.ieee]
  exact EReal.mul_pos (by norm_cast) (EReal.coe_pos.2 (by norm_num))

/-- The small number added to the variance is positive. -/
theorem ofBits_eps_pos : 0 < Ideal.ofBits .f32 925353388#32 := by
  simp [Ideal.ofBits, Ideal.ieee]
  exact EReal.mul_pos (by norm_cast) (EReal.coe_pos.2 (by norm_num))

/-- The integer zero as a float is zero. -/
theorem sitofp_zero : FloatOps.sitofp (F := Ideal) .f32 0#32 = 0 := by
  show (((0#32 : BitVec 32).toInt : ℝ) : EReal) = 0
  simp

/-! ## Division, exponential -/

/-- Dividing by one changes nothing. -/
theorem div_one' (x : EReal) : Ideal.div x 1 = x := by
  simp [Ideal.div]

/-- Exponentials are not negative. -/
theorem exp_nonneg (x : EReal) : 0 ≤ Ideal.exp x := by
  induction x with
  | bot => exact le_refl _
  | top => exact le_top
  | coe r => exact EReal.coe_nonneg.2 (Real.exp_pos r).le

/-- The exponential of a number that is not `⊤` is a real number. -/
theorem exp_real {x : EReal} (h : x ≠ ⊤) : ∃ r : ℝ, Ideal.exp x = (r : EReal) := by
  induction x with
  | bot => exact ⟨0, rfl⟩
  | top => exact absurd rfl h
  | coe r => exact ⟨Real.exp r, rfl⟩

/-- A finite nonnegative number over one at least as large is not `⊤`. -/
theorem div_ne_top {a b : EReal} (ha : 0 ≤ a) (ht : a ≠ ⊤) (hab : a ≤ b) : Ideal.div a b ≠ ⊤ := by
  unfold Ideal.div
  split
  · rename_i h
    rw [if_neg (not_lt.2 (h ▸ hab))]
    exact bot_ne_top
  · rename_i h
    have hb : 0 < b := lt_of_le_of_ne (ha.trans hab) (Ne.symm h)
    have hi : b⁻¹ ≠ ⊤ := by
      induction b with
      | bot => simp
      | top => simp
      | coe r => rw [← EReal.coe_inv]; exact EReal.coe_ne_top _
    rw [EReal.mul_ne_top]
    exact ⟨Or.inl (ne_bot_of_gt (lt_of_lt_of_le EReal.bot_lt_zero ha)), Or.inl ha, Or.inl ht, Or.inr hi⟩

/-- A common positive real factor cancels in a quotient of reals. -/
theorem div_scale (a b c : ℝ) (hc : 0 < c) :
    Ideal.div ((a * c : ℝ) : EReal) ((b * c : ℝ) : EReal) = Ideal.div (a : EReal) (b : EReal) := by
  unfold Ideal.div
  by_cases hb : b = 0
  · subst hb
    have h : (0 : EReal) < ((a * c : ℝ) : EReal) ↔ (0 : EReal) < (a : EReal) := by
      rw [EReal.coe_pos, EReal.coe_pos]
      exact mul_pos_iff_of_pos_right hc
    simp only [zero_mul, EReal.coe_zero, if_true, h]
  · rw [if_neg (by exact_mod_cast mul_ne_zero hb hc.ne'), if_neg (by exact_mod_cast hb),
      ← EReal.coe_inv, ← EReal.coe_inv, ← EReal.coe_mul, ← EReal.coe_mul]
    congr 1
    field_simp

/-- The gate is not negative. -/
theorem logistic_nonneg (x : EReal) : 0 ≤ Ideal.logistic x := by
  have h : (0 : EReal) < 1 + Ideal.exp (-x) := lt_of_lt_of_le one_pos (le_add_of_nonneg_right (exp_nonneg _))
  unfold Ideal.logistic Ideal.div
  rw [if_neg h.ne', one_mul]
  exact EReal.inv_nonneg_of_nonneg h.le

/-- The gate is not `⊤`. -/
theorem logistic_ne_top (x : EReal) : Ideal.logistic x ≠ ⊤ :=
  div_ne_top zero_le_one (by exact_mod_cast EReal.coe_ne_top 1) (le_add_of_nonneg_right (exp_nonneg _))

/-! ## Softmax -/

/-- Every member is at most the maximum. -/
theorem le_maxOf {n : ℕ} (f : Fin n → EReal) (i : Fin n) : f i ≤ maxOf f :=
  (Finset.le_fold_max _).2 (Or.inr ⟨i, Finset.mem_univ i, le_rfl⟩)

/-- The maximum of numbers none of which is `⊤` is not `⊤`. -/
theorem maxOf_ne_top {n : ℕ} (f : Fin n → EReal) (h : ∀ i, f i ≠ ⊤) : maxOf f ≠ ⊤ :=
  ne_of_lt ((Finset.fold_max_lt _).2 ⟨bot_lt_top, fun i _ => lt_top_iff_ne_top.2 (h i)⟩)

/-- A number minus one at least as large has exponential at most one. -/
theorem exp_sub_le {a M : EReal} (h : a ≤ M) : Ideal.exp (a - M) ≤ 1 := by
  induction M with
  | bot => rw [le_bot_iff.1 h]; exact zero_le_one
  | top => rw [EReal.sub_top]; exact zero_le_one
  | coe m =>
    induction a with
    | bot => exact zero_le_one
    | top => exact absurd h (by simp)
    | coe r =>
      show ((Real.exp (r - m) : ℝ) : EReal) ≤ 1
      have h' : r ≤ m := EReal.coe_le_coe_iff.1 h
      exact_mod_cast Real.exp_le_one_iff.2 (by linarith)

/-- A softmax weight is not `⊤`. -/
theorem softmax_ne_top {n : ℕ} (f : Fin n → EReal) (i : Fin n) : softmax f i ≠ ⊤ :=
  div_ne_top (exp_nonneg _)
    (ne_of_lt ((exp_sub_le (le_maxOf f i)).trans_lt (by exact_mod_cast EReal.coe_lt_top 1)))
    (Finset.single_le_sum (f := fun j => Ideal.exp (f j - maxOf f)) (fun j _ => exp_nonneg _) (Finset.mem_univ i))

/-- A level's logit is not `⊤`. -/
theorem level_ne_top {K : ℕ} (c : Fin 64 → EReal) (W : Fin 4 → Fin 16 → Fin K → EReal) (b : Fin 4 → Fin K → EReal)
    (w : Fin 4 → EReal) (k : Fin K) : level c W b w k ≠ ⊤ := by
  have h : ∀ n : Fin 4, softmax w n * Ideal.logistic (∑ d, c (blk n d) * W n d k + b n k) ≠ ⊤ := fun n =>
    (EReal.mul_ne_top _ _).2 ⟨Or.inr (logistic_nonneg _),
      Or.inr (ne_bot_of_gt (lt_of_lt_of_le EReal.bot_lt_zero (logistic_nonneg _))),
      Or.inl (softmax_ne_top w n), Or.inr (logistic_ne_top _)⟩
  unfold level
  rw [Fin.sum_univ_four]
  exact EReal.add_ne_top (EReal.add_ne_top (EReal.add_ne_top (h 0) (h 1)) (h 2)) (h 3)

/-- Where no logit is `⊤`, subtracting the maximum does not change the shares. -/
theorem expShare_eq_softmax {n : ℕ} (f : Fin n → EReal) (h : ∀ i, f i ≠ ⊤) (i : Fin n) :
    expShare f i = softmax f i := by
  have hM := maxOf_ne_top f h
  have hle := le_maxOf f
  unfold expShare softmax
  generalize maxOf f = M at hM hle
  induction M with
  | top => exact absurd rfl hM
  | bot =>
    have hb : ∀ j, f j = ⊥ := fun j => le_bot_iff.1 (hle j)
    simp only [hb]
    rfl
  | coe m =>
    choose e he using fun j => exp_real (h j)
    have hs : ∀ j, Ideal.exp (f j - (m : EReal)) = ((e j * Real.exp (-m) : ℝ) : EReal) := by
      intro j
      have hj := he j
      generalize f j = a at hj
      induction a with
      | top => exact absurd hj.symm (EReal.coe_ne_top _)
      | bot =>
        have : e j = 0 := EReal.coe_eq_coe_iff.1 hj.symm
        rw [this, zero_mul]; rfl
      | coe r =>
        have : e j = Real.exp r := EReal.coe_eq_coe_iff.1 hj.symm
        rw [this, ← Real.exp_add]; rfl
    have cs : ∀ g : Fin n → ℝ, ∑ j, (g j : EReal) = ((∑ j, g j : ℝ) : EReal) := fun g =>
      (map_sum (⟨⟨Real.toEReal, EReal.coe_zero⟩, EReal.coe_add⟩ : ℝ →+ EReal) g Finset.univ).symm
    simp only [hs, he, cs, ← Finset.sum_mul]
    exact (div_scale _ _ _ (Real.exp_pos _)).symm

/-! ## Sums over a group of four -/

/-- Summing against the indicator of `k`'s group of four is summing over that group. -/
theorem sum_group {m K : ℕ} (hK : K = m * 4) (y : Fin K → EReal) (k : Fin K) :
    ∑ x, y x * (if (x : ℕ) / 4 = (k : ℕ) / 4 then 1 else 0) = ∑ j : Fin 4, y ⟨k / 4 * 4 + j, by omega⟩ := by
  simp only [mul_ite, mul_one, mul_zero]
  rw [← Finset.sum_filter]
  symm
  refine Finset.sum_nbij (fun j : Fin 4 => (⟨k / 4 * 4 + j, by omega⟩ : Fin K)) ?_ ?_ ?_ fun _ _ => rfl
  · intro j _
    simp only [Finset.mem_filter, Finset.mem_univ, true_and]
    omega
  · intro a _ b _ hab
    have := congrArg Fin.val hab
    exact Fin.ext (by simpa using this)
  · intro x hx
    have hx' : (x : ℕ) / 4 = (k : ℕ) / 4 := by simpa using hx
    exact ⟨⟨x % 4, by omega⟩, Finset.mem_coe.2 (Finset.mem_univ _), Fin.ext (by show k / 4 * 4 + (x : ℕ) % 4 = x; omega)⟩

/-- Summing the parents that are selected for `k` leaves the parent of `k`. -/
theorem sum_parent {m K : ℕ} (hK : K = m * 4) (p : Fin m → EReal) (k : Fin K) :
    ∑ x : Fin m, (if (x : ℕ) = (k : ℕ) / 4 then p x else 0) = p ⟨k / 4, by omega⟩ := by
  rw [Finset.sum_eq_single (⟨k / 4, by omega⟩ : Fin m)]
  · simp
  · intro x _ hx
    exact if_neg fun h => hx (Fin.ext h)
  · intro h; exact absurd (Finset.mem_univ _) h

/-- The kernel's child weight — the selected parent times an exponential over its group's sum — is the
    softmax form, where no logit is `⊤`. -/
theorem child_eq {m K : ℕ} (hK : K = m * 4) (p : Fin m → EReal) (r : Fin K → EReal) (hr : ∀ x, r x ≠ ⊤) (k : Fin K) :
    (∑ x : Fin m, (if (x : ℕ) = (k : ℕ) / 4 then p x else 0)) *
      Ideal.div (Ideal.exp (r k)) (∑ x, Ideal.exp (r x) * (if (x : ℕ) / 4 = (k : ℕ) / 4 then 1 else 0))
      = child hK p r k := by
  rw [sum_parent hK, sum_group hK]
  unfold child
  rw [← expShare_eq_softmax _ (fun _ => hr _)]
  have e : (⟨k / 4 * 4 + (k : ℕ) % 4, by omega⟩ : Fin K) = k := Fin.ext (by simp only; omega)
  unfold expShare
  simp only [e]

/-! ## The closing norm -/

/-- A square is not negative. -/
theorem mul_self_nonneg' (x : EReal) : 0 ≤ x * x := by
  rcases le_total 0 x with h | h
  · exact mul_nonneg h h
  · rw [← neg_mul_neg]
    have h' : 0 ≤ -x := EReal.neg_nonneg.2 h
    exact mul_nonneg h' h'

/-- A mean square deviation is not negative. -/
theorem variance_nonneg (y : Fin 1024 → EReal) : 0 ≤ variance y := by
  unfold variance Ideal.div
  rw [if_neg ofBits_width_pos.ne']
  exact mul_nonneg (Finset.sum_nonneg fun _ _ => mul_self_nonneg' _) (EReal.inv_nonneg_of_nonneg ofBits_width_pos.le)

/-- Multiplying by the reciprocal square root of a positive number is dividing by its square root. -/
theorem mul_rsqrt {v : EReal} (x : EReal) (hv : 0 < v) : x * Ideal.rsqrt v = Ideal.div x (Ideal.sqrt v) := by
  induction v with
  | bot => exact absurd hv (by simp)
  | top =>
    show x * 0 = Ideal.div x ⊤
    simp [Ideal.div]
  | coe r =>
    have hr : 0 < r := EReal.coe_pos.1 hv
    have hs : Real.sqrt r ≠ 0 := (Real.sqrt_pos.2 hr).ne'
    show x * (if r < 0 then (⊥ : EReal) else if r = 0 then (⊤ : EReal) else (((Real.sqrt r)⁻¹ : ℝ) : EReal))
      = Ideal.div x (if r < 0 then (⊥ : EReal) else (Real.sqrt r : EReal))
    rw [if_neg (not_lt.2 hr.le), if_neg hr.ne', if_neg (not_lt.2 hr.le), Ideal.div, if_neg (by exact_mod_cast hs), EReal.coe_inv]

/-- The norm written with a reciprocal square root. -/
theorem norm_eq (y g b : Fin 1024 → EReal) (o : Fin 1024) :
    (y o - mean y) * Ideal.rsqrt (variance y + Ideal.ofBits .f32 925353388#32) * g o + b o = norm y g b o := by
  unfold norm
  rw [mul_rsqrt _ (lt_of_lt_of_le ofBits_eps_pos (le_add_of_nonneg_left (variance_nonneg y)))]

end Cert.Proof
-- ==== Proof.KRoute.lean ====
/- The kernel's routing weights: each piece of the first point's work read at one entry, up to the weights
   of the 64 experts, which are the routing weights of the row. -/
module

public import proofs.«01_k».proof.Proof.KBody
public import proofs.«01_k».proof.Proof.Algebra

@[expose] public section

noncomputable section

namespace Cert.Proof

open Cert.KernelIdeal Cert.KernelIdeal.Gen Idealize.ShloMosaic Idealize.ShloMosaic.TcCoe

/-! ## The words of the group masks -/

/-- The quotient by four as the kernel computes it on words: truncated division, lowered by one where the
    signs differ and a remainder is left. -/
def quot4 (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 4#32 0#32))
          (Scalar.extui (Scalar.cmpi CmpIPredicate.slt 4#32 0#32))))
      (IntOp.cmpi CmpIPredicate.ne (IntOp.remsi ArithUnit.vector w 4#32) 0#32))
    (IntOp.subi (IntOp.divsi ArithUnit.vector w 4#32) 1#32)
    (IntOp.divsi ArithUnit.vector w 4#32)

/-- On the words below 64 it is the quotient of the number. -/
theorem quot4_eq : ∀ n : Fin 64, quot4 (BitVec.ofNat 32 n) = BitVec.ofNat 32 (n / 4) := by decide +kernel

/-- Comparing the words of two small numbers compares the numbers. -/
theorem cmp_eq {a b : ℕ} (ha : a < 64) (hb : b < 64) :
    IntOp.cmpi CmpIPredicate.eq (BitVec.ofNat 32 a) (BitVec.ofNat 32 b) = if a = b then 1#1 else 0#1 := by
  have h : ∀ a b : Fin 64, IntOp.cmpi CmpIPredicate.eq (BitVec.ofNat 32 a) (BitVec.ofNat 32 b)
      = if (a : ℕ) = (b : ℕ) then 1#1 else 0#1 := by decide +kernel
  exact h ⟨a, ha⟩ ⟨b, hb⟩

/-- Selecting on a decided bit is the conditional. -/
theorem select_ite {α : Type} {p : Prop} [Decidable p] (a b : α) :
    Scalar.select (if p then 1#1 else 0#1) a b = if p then a else b := by
  by_cases h : p <;> simp [Scalar.select, h]

/-- The 4 by 16 mask selects the parent of each column. -/
theorem mask16_at (x : Fin 4) (k : Fin 16) :
    k0_pay33 (ix2 x k) = if (x : ℕ) = (k : ℕ) / 4 then 1#1 else 0#1 := by
  unfold k0_pay33
  pointwise
  change IntOp.cmpi CmpIPredicate.eq (BitVec.ofNat 32 (x : ℕ)) (quot4 (BitVec.ofNat 32 (k : ℕ))) = _
  rw [quot4_eq ⟨k, by omega⟩, cmp_eq (by omega) (by show (k : ℕ) / 4 < 64; omega)]

/-- The 16 by 64 mask selects the parent of each column. -/
theorem mask64_at (x : Fin 16) (k : Fin 64) :
    k0_pay39 (ix2 x k) = if (x : ℕ) = (k : ℕ) / 4 then 1#1 else 0#1 := by
  unfold k0_pay39
  pointwise
  change IntOp.cmpi CmpIPredicate.eq (BitVec.ofNat 32 (x : ℕ)) (quot4 (BitVec.ofNat 32 (k : ℕ))) = _
  rw [quot4_eq k, cmp_eq (by omega) (by omega)]

/-- The 16 by 16 matrix has a one where row and column lie in the same group of four. -/
theorem grp16_at (x k : Fin 16) : grp16 (F := Ideal) (ix2 x k) = if (x : ℕ) / 4 = (k : ℕ) / 4 then 1 else 0 := by
  unfold grp16 k0_pay32 k0_pay29 k0_pay30 k0_pay31
  pointwise
  change Scalar.select (IntOp.cmpi CmpIPredicate.eq (quot4 (BitVec.ofNat 32 (x : ℕ)))
    (quot4 (BitVec.ofNat 32 (k : ℕ)))) (1 : EReal) 0 = _
  rw [quot4_eq ⟨x, by omega⟩, quot4_eq ⟨k, by omega⟩,
    cmp_eq (by show (x : ℕ) / 4 < 64; omega) (by show (k : ℕ) / 4 < 64; omega), select_ite]

/-- The 64 by 64 matrix has a one where row and column lie in the same group of four. -/
theorem grp64_at (x k : Fin 64) : grp64 (F := Ideal) (ix2 x k) = if (x : ℕ) / 4 = (k : ℕ) / 4 then 1 else 0 := by
  unfold grp64 k0_pay38 k0_pay35 k0_pay36 k0_pay37
  pointwise
  change Scalar.select (IntOp.cmpi CmpIPredicate.eq (quot4 (BitVec.ofNat 32 (x : ℕ)))
    (quot4 (BitVec.ofNat 32 (k : ℕ)))) (1 : EReal) 0 = _
  rw [quot4_eq x, quot4_eq k, cmp_eq (by omega) (by omega), select_ite]

/-! ## The three levels' logits -/

/-- The colour of a row. -/
theorem colV_at (x : Vec Ideal S2048x1024 .f32) (w : Vec Ideal S1024x64 .f32) (b : Vec Ideal S1x64 .f32)
    (s : Fin 2048) (e : Fin 64) :
    colV x w b (ix2 s e) = colour (fun d => x (ix2 s d)) (fun d e => w (ix2 d e)) (fun e => b (ix2 0 e)) e := by
  unfold colV k0_pay8
  pointwise [dot_S2048x1024_S1024x64_S2048x64_1_0_0_1_n_n]
  rfl

/-- The mixing weights are a softmax. -/
theorem mixing_at (w : Vec Ideal S1x4 .f32) (n : Fin 4) :
    k0_pay9 w (ix2 0 n) = softmax (fun n => w (ix2 0 n)) n := by
  unfold k0_pay9
  pointwise
  simp only [ofBits_neg_inf]
  rfl

/-- The second level computes its mixing weights the same way. -/
theorem mixing2_at (w : Vec Ideal S1x4 .f32) (n : Fin 4) :
    k0_pay17 w (ix2 0 n) = softmax (fun n => w (ix2 0 n)) n :=
  (show k0_pay17 w (ix2 0 n) = k0_pay9 w (ix2 0 n) from rfl).trans (mixing_at w n)

/-- The first block of a row's colour, its entries named by their own numbers. -/
theorem blk_zero (d : Fin 16) (h : (d : ℕ) < 64) : (⟨d, h⟩ : Fin 64) = blk 0 d := Fin.ext (by simp [blk])

/-- The first level's logits. -/
theorem r1V_at (x : Vec Ideal S2048x1024 .f32) (w : Vec Ideal S1024x64 .f32) (b : Vec Ideal S1x64 .f32)
    (W : Vec Ideal S4x16x4 .f32) (bb : Vec Ideal S4x4 .f32) (bw : Vec Ideal S1x4 .f32) (s : Fin 2048) (k : Fin 4) :
    r1V x w b W bb bw (ix2 s k)
      = level (fun e => colV x w b (ix2 s e)) (fun n d k => W (ix3 n d k)) (fun n k => bb (ix2 n k))
          (fun n => bw (ix2 0 n)) k := by
  unfold r1V k0_pay16 k0_pay13 k0_pay10 k0_pay11 k0_pay12 k0_pay14 k0_pay15
  pointwise [dot_S2048x16_S16x4_S2048x4_1_0_0_1_n_n]
  simp only [blk_zero, mixing_at]
  exact (Fin.sum_univ_four (fun n => softmax (fun n => bw (ix2 0 n)) n * Ideal.logistic (∑ d, colV x w b (ix2 s (blk n d)) * W (ix3 n d k)
    + bb (ix2 n k)))).symm

/-- The second level's logits. -/
theorem r2V_at (v : FVec Ideal S2048x64 .bf16)
    (W : Vec Ideal S4x16x16 .f32) (bb : Vec Ideal S4x16 .f32) (bw : Vec Ideal S1x4 .f32) (s : Fin 2048) (k : Fin 16) :
    r2V v W bb bw (ix2 s k)
      = level (fun e => v (ix2 s e)) (fun n d k => W (ix3 n d k)) (fun n k => bb (ix2 n k))
          (fun n => bw (ix2 0 n)) k := by
  unfold r2V k0_pay20 k0_pay17 k0_pay18 k0_pay19
  pointwise [dot_S2048x16_S16x16_S2048x16_1_0_0_1_n_n]
  simp only [blk_zero, ofBits_neg_inf, mixing2_at]
  exact (Fin.sum_univ_four (fun n => softmax (fun n => bw (ix2 0 n)) n * Ideal.logistic (∑ d, v (ix2 s (blk n d)) * W (ix3 n d k)
    + bb (ix2 n k)))).symm

/-- The third level's logits. -/
theorem r3V_at (v : FVec Ideal S2048x64 .bf16)
    (W : Vec Ideal S4x16x64 .f32) (bb : Vec Ideal S4x64 .f32) (bw : Vec Ideal S1x4 .f32) (s : Fin 2048) (k : Fin 64) :
    r3V v W bb bw (ix2 s k)
      = level (fun e => v (ix2 s e)) (fun n d k => W (ix3 n d k)) (fun n k => bb (ix2 n k))
          (fun n => bw (ix2 0 n)) k := by
  unfold r3V k0_pay27 k0_pay21 k0_pay25 k0_pay22 k0_pay23 k0_pay24 k0_pay26
  pointwise [dot_S2048x16_S16x64_S2048x64_1_0_0_1_n_n]
  simp only [blk_zero, ofBits_neg_inf]
  exact (Fin.sum_univ_four (fun n => softmax (fun n => bw (ix2 0 n)) n * Ideal.logistic (∑ d, v (ix2 s (blk n d)) * W (ix3 n d k)
    + bb (ix2 n k)))).symm

/-! ## The joint weights -/

/-- The first level's weights are shares of exponentials. -/
theorem p1_at (r : FVec Ideal S2048x4 .f32) (s : Fin 2048) (k : Fin 4) :
    k0_pay28 r (ix2 s k) = expShare (fun k => r (ix2 s k)) k := by
  unfold k0_pay28
  pointwise
  rfl

/-- The second level's joint weights. -/
theorem j2V_at (r1 : FVec Ideal S2048x4 .f32) (r2 : FVec Ideal S2048x16 .f32) (s : Fin 2048)
    (h : ∀ k : Fin 16, r2 (ix2 s k) ≠ (⊤ : EReal)) (k : Fin 16) :
    j2V r1 r2 (ix2 s k)
      = child (m := 4) rfl (fun k => k0_pay28 r1 (ix2 s k)) (fun k => r2 (ix2 s k)) k := by
  unfold j2V k0_pay34
  pointwise [dot_S2048x16_S16x16_S2048x16_1_0_0_1_n_n, dot_S2048x4_S4x16_S2048x16_1_0_0_1_n_n]
  simp only [mask16_at, grp16_at, select_ite]
  exact child_eq (m := 4) rfl _ _ h k

/-- The third level's joint weights, one column per row of the input. -/
theorem j3V_at (r3 : FVec Ideal S2048x64 .f32) (j2 : FVec Ideal S2048x16 .f32) (s : Fin 2048)
    (h : ∀ k : Fin 64, r3 (ix2 s k) ≠ (⊤ : EReal)) (k : Fin 64) :
    j3V r3 j2 (ix2 k s) = child (m := 16) rfl (fun k => j2 (ix2 s k)) (fun k => r3 (ix2 s k)) k := by
  unfold j3V k0_pay40
  pointwise [dot_S2048x16_S16x64_S2048x64_1_0_0_1_n_n, dot_S2048x64_S64x64_S2048x64_1_0_0_1_n_n]
  simp only [mask64_at, grp64_at, select_ite]
  exact child_eq (m := 16) rfl _ _ h k

/-- The kernel's weights of the 64 experts are the routing weights. -/
theorem jV_at (x : Vec Ideal S2048x1024 .f32) (w : Vec Ideal S1024x64 .f32) (b : Vec Ideal S1x64 .f32)
    (W1 : Vec Ideal S4x16x4 .f32) (b1 : Vec Ideal S4x4 .f32) (w1 : Vec Ideal S1x4 .f32)
    (W2 : Vec Ideal S4x16x16 .f32) (b2 : Vec Ideal S4x16 .f32) (w2 : Vec Ideal S1x4 .f32)
    (W3 : Vec Ideal S4x16x64 .f32) (b3 : Vec Ideal S4x64 .f32) (w3 : Vec Ideal S1x4 .f32) (k : Fin 64) (s : Fin 2048) :
    jV x w b W1 b1 w1 W2 b2 w2 W3 b3 w3 (ix2 k s)
      = route (colour (fun d => x (ix2 s d)) (fun d e => w (ix2 d e)) (fun e => b (ix2 0 e)))
          (fun n d k => W1 (ix3 n d k)) (fun n k => b1 (ix2 n k)) (fun n => w1 (ix2 0 n))
          (fun n d k => W2 (ix3 n d k)) (fun n k => b2 (ix2 n k)) (fun n => w2 (ix2 0 n))
          (fun n d k => W3 (ix3 n d k)) (fun n k => b3 (ix2 n k)) (fun n => w3 (ix2 0 n)) k := by
  unfold jV
  have h2 : ∀ k : Fin 16, r2V (colV x w b) W2 b2 w2 (ix2 s k) ≠ (⊤ : EReal) := fun k => by
    rw [r2V_at]; exact level_ne_top _ _ _ _ _
  have h3 : ∀ k : Fin 64, r3V (colV x w b) W3 b3 w3 (ix2 s k) ≠ (⊤ : EReal) := fun k => by
    rw [r3V_at]; exact level_ne_top _ _ _ _ _
  have h1 : ∀ k : Fin 4, k0_pay28 (r1V x w b W1 b1 w1) (ix2 s k)
      = softmax (fun k => r1V x w b W1 b1 w1 (ix2 s k)) k := fun k => by
    rw [p1_at]
    exact expShare_eq_softmax _ (fun k => by rw [r1V_at]; exact level_ne_top _ _ _ _ _) k
  rw [j3V_at _ _ _ h3]
  simp only [j2V_at _ _ _ h2, h1, r1V_at, r2V_at, r3V_at, colV_at]
  rfl

end Cert.Proof
-- ==== Proof.KTerm.lean ====
/- What one point of the kernel adds: its payloads read at one entry, and the term of its expert. -/
module

public import proofs.«01_k».proof.Proof.KRun
public import proofs.«01_k».proof.Proof.KRoute

@[expose] public section

noncomputable section

namespace Cert.Proof

open Cert.KernelIdeal Cert.KernelIdeal.Gen Idealize.ShloMosaic Idealize.ShloMosaic.TcCoe Idealize.SL.Sem

variable (m : (ℓ : Loc nD τ sig) → Buf (Elt Ideal) ℓ)

/-! ## The payloads of a point, at one entry -/

/-- The transposed rows are kept unchanged. -/
theorem pay7_at (x : Vec Ideal S1024x2048 .f32) (d : Fin 1024) (s : Fin 2048) :
    k0_pay7 x (ix2 d s) = x (ix2 d s) := by
  unfold k0_pay7
  pointwise

/-- The sum starts at zero. -/
theorem pay4_at (o : Fin 1024) (s : Fin 2048) : k0_pay4 (F := Ideal) (ix2 o s) = 0 := by
  unfold k0_pay4
  pointwise

/-- One point adds its expert's product, weighted. -/
theorem pay5_at (w : Vec Ideal S1x1024x1024 .f32) (x : Vec Ideal S1024x2048 .fp8e4m3)
    (j : Vec Ideal S1x8x2048 .f32) (a : Vec Ideal S1024x2048 .f32) (o : Fin 1024) (s : Fin 2048) :
    k0_pay5 w x j a (ix2 o s) = a (ix2 o s) + j (ix3 0 0 s) * ∑ d, w (ix3 0 d o) * x (ix2 d s) := by
  unfold k0_pay5
  pointwise [dot_S1024x1024_S1024x2048_S1024x2048_0_0_1_1_n_n]

/-- The last step before scale and shift: the unit of the biased sum, added to the input and normalized. -/
theorem pay47_at (a : Vec Ideal S1024x2048 .f32) (b : Vec Ideal S1024x64 .f32) (j : Vec Ideal S64x2048 .bf16)
    (x : Vec Ideal S1024x2048 .f32) (y : Fin 1024 → EReal) (s : Fin 2048)
    (hy : ∀ o, y o = x (ix2 o s) + gelu (a (ix2 o s) + ∑ k, b (ix2 o k) * j (ix2 k s))) (o : Fin 1024) :
    k0_pay47 a b j x (ix2 o s)
      = (y o - mean y) * Ideal.rsqrt (variance y + Ideal.ofBits .f32 925353388#32) := by
  unfold k0_pay47
  pointwise [dot_S1024x64_S64x2048_S1024x2048_1_0_0_1_n_n]
  unfold variance mean
  simp only [hy, gelu, mul_assoc]

/-- Scale and shift. -/
theorem pay6_at (a : Vec Ideal S1024x2048 .f32) (g b : Vec Ideal S1024x1 .f32) (o : Fin 1024) (s : Fin 2048) :
    k0_pay6 a g b (ix2 o s) = a (ix2 o s) * g (ix2 o 0) + b (ix2 o 0) := by
  unfold k0_pay6
  pointwise

/-- The copies' offset at a point is the point's number. -/
theorem off1_eq : ∀ t : Fin cfg0.N, k0_off1 (grid0.coords t) = ![t.val, 0, 0] := by decide +kernel

/-- A point loads its own expert's weights. -/
theorem rowAt_at (J : FVec Ideal S64x2048 .f32) (t : Fin cfg0.N) (s : Fin 2048) :
    rowAt J t (ix3 0 0 s) = J (ix2 (t.cast N_0) s) := by
  unfold rowAt
  refine (View.ld_unit_apply_of _ _ _ _ _ (ix3 (t.cast N_0) 0 s) fun a => ?_).trans rfl
  have e := fun a => congrFun (off1_eq t) a
  fin_cases a
  · exact (Nat.add_zero _).trans (e 0) |>.symm
  · exact ((Nat.add_zero _).trans (e 1)).symm
  · exact (congrArg (· + (s : ℕ)) (e 2) |>.trans (Nat.zero_add _)).symm

/-! ## The sum over the experts -/

/-- The rows, as the kernel reads them. -/
def iX (c : Dev nD) : Vec Ideal S2048x1024 .f32 := V m c main_v0

/-- The colour's matrix, as the kernel reads it. -/
def iW (c : Dev nD) : Vec Ideal S1024x64 .f32 := V m c main_arg1

/-- The colour's bias, as the kernel reads it. -/
def iB (c : Dev nD) : Vec Ideal S1x64 .f32 := V m c main_v1

/-- The first level's matrices, as the kernel reads them. -/
def iW1 (c : Dev nD) : Vec Ideal S4x16x4 .f32 := V m c main_arg3

/-- The first level's biases, as the kernel reads them. -/
def iB1 (c : Dev nD) : Vec Ideal S4x4 .f32 := V m c main_arg4

/-- The first level's mixing logits, as the kernel reads them. -/
def iM1 (c : Dev nD) : Vec Ideal S1x4 .f32 := V m c main_v2

/-- The second level's matrices, as the kernel reads them. -/
def iW2 (c : Dev nD) : Vec Ideal S4x16x16 .f32 := V m c main_arg6

/-- The second level's biases, as the kernel reads them. -/
def iB2 (c : Dev nD) : Vec Ideal S4x16 .f32 := V m c main_arg7

/-- The second level's mixing logits, as the kernel reads them. -/
def iM2 (c : Dev nD) : Vec Ideal S1x4 .f32 := V m c main_v3

/-- The third level's matrices, as the kernel reads them. -/
def iW3 (c : Dev nD) : Vec Ideal S4x16x64 .f32 := V m c main_arg9

/-- The third level's biases, as the kernel reads them. -/
def iB3 (c : Dev nD) : Vec Ideal S4x64 .f32 := V m c main_arg10

/-- The third level's mixing logits, as the kernel reads them. -/
def iM3 (c : Dev nD) : Vec Ideal S1x4 .f32 := V m c main_v4

/-- The kernel's weights of the experts, from the arrays it reads. -/
def wts (c : Dev nD) : FVec Ideal S64x2048 .f32 :=
  jV (iX m c) (iW m c) (iB m c) (iW1 m c) (iB1 m c) (iM1 m c)
    (iW2 m c) (iB2 m c) (iM2 m c) (iW3 m c) (iB3 m c) (iM3 m c)

/-- The transposed rows the kernel reads. -/
def xT (c : Dev nD) : Vec Ideal S1024x2048 .f32 := V m c main_v8

/-- The experts' matrices. -/
def wE (c : Dev nD) : Vec Ideal S64x1024x1024 .f32 := V m c main_arg12

/-- The experts' biases, transposed. -/
def bE (c : Dev nD) : Vec Ideal S1024x64 .f32 := V m c main_v5

/-- The norm's scale, as a column. -/
def gC (c : Dev nD) : Vec Ideal S1024x1 .f32 := V m c main_v6

/-- The norm's shift, as a column. -/
def bC (c : Dev nD) : Vec Ideal S1024x1 .f32 := V m c main_v7

/-- A point's block of the experts' matrices is its own expert's. -/
theorem wE_at (c : Dev nD) (t : Fin cfg0.N) (d e : Fin 1024) :
    (iblk m c 12 t : Vec Ideal S1x1024x1024 .f32) (ix3 0 d e) = wE m c (ix3 (t.cast N_0) d e) := iblk_12 m c t d e

/-- Every point's blocks give those weights. -/
theorem jAt_eq (c : Dev nD) (t : Fin cfg0.N) : jAt m c t = wts m c := by
  unfold jAt wts
  rw [iblk_0, iblk_1, iblk_2, iblk_3, iblk_4, iblk_5, iblk_6, iblk_7, iblk_8, iblk_9, iblk_10, iblk_11]
  rfl

/-- What expert `k` adds at column `o` of row `s`. -/
def term (c : Dev nD) (o : Fin 1024) (s : Fin 2048) (k : Fin 64) : EReal :=
  wts m c (ix2 k s) * ∑ d, wE m c (ix3 k d o) * xT m c (ix2 d s)

/-- What the first `n` experts add. -/
def partSum (c : Dev nD) (o : Fin 1024) (s : Fin 2048) (n : ℕ) : EReal :=
  ∑ k ∈ Finset.range n, if h : k < 64 then term m c o s ⟨k, h⟩ else 0

/-- A point adds its expert's term to what the block holds. -/
theorem add_term (c : Dev nD) (t : Fin cfg0.N) (a : Vec Ideal S1024x2048 .f32) (o : Fin 1024) (s : Fin 2048)
    (ha : a (ix2 o s) = partSum m c o s t.val) :
    k0_pay5 (iblk m c 12 t) (k0_pay7 (xT m c)) (rowAt (wts m c) t) a (ix2 o s)
      = partSum m c o s (t.val + 1) := by
  have ht : t.val < 64 := lt_of_lt_of_eq t.isLt N_0
  refine (pay5_at _ _ _ _ o s).trans ?_
  rw [rowAt_at, ha]
  unfold partSum
  rw [Finset.sum_range_succ, dif_pos ht]
  refine congrArg₂ (· + ·) rfl (congrArg₂ (· * ·) rfl (Finset.sum_congr rfl fun d _ => congrArg₂ (· * ·) ?_ ?_))
  · exact wE_at m c t d o
  · exact pay7_at _ d s

end Cert.Proof
-- ==== Proof.KSum.lean ====
/- What the kernel's output block holds: the experts' sum so far after each point before the last, the
   normalized rows after the last one. -/
module

public import proofs.«01_k».proof.Proof.KTerm

@[expose] public section

noncomputable section

namespace Cert.Proof

open Cert.KernelIdeal Cert.KernelIdeal.Gen Idealize.ShloMosaic Idealize.ShloMosaic.TcCoe Idealize.SL.Sem

variable (m : (ℓ : Loc nD τ sig) → Buf (Elt Ideal) ℓ)

/-! ## After each point -/

/-- What holds after a point before the last: the block has the experts' sum so far, and the scratch arrays
    hold what the first point put there. -/
def Holds (c : Dev nD) (n : ℕ) (hn : n < cfg0.N) : Prop :=
  (outsAt0 m c n hn).2 = (k0_pay7 (xT m c), jbV (wts m c), rowsV (wts m c))
    ∧ ∀ (o : Fin 1024) (s : Fin 2048), (outsAt0 m c n hn).1 (ix2 o s) = partSum m c o s (n + 1)

/-- It holds after the first point. -/
theorem holds_first (c : Dev nD) (t : Fin cfg0.N) (ht : t.val = 0) : Holds m c t.val t.isLt := by
  have h0 : t.val % 64 = 0 := by omega
  have h1 : ¬ t.val % 64 = 63 := by omega
  have hx : (iblk m c 16 t : Vec Ideal S1024x2048 .f32) = xT m c := iblk_16 m c t
  have e1 := (first_xt m c t h0 h1).trans (congrArg k0_pay7 hx)
  have e2 := (first_j m c t h0 h1).trans (congrArg jbV (jAt_eq m c t))
  have e3 := (first_rows m c t h0 h1).trans (congrArg rowsV (jAt_eq m c t))
  have e0 := first_out m c t h0 h1
  rw [hx, jAt_eq] at e0
  unfold Holds
  constructor
  · generalize outsAt0 m c t.val t.isLt = q at e1 e2 e3
    obtain ⟨_, x, j, r⟩ := q
    dsimp only at e1 e2 e3 ⊢
    rw [e1, e2, e3]
  · intro o s
    rw [e0]
    refine add_term m c t _ o s ?_
    rw [pay4_at, ht]
    exact (Finset.sum_range_zero _).symm

/-- It holds after a further point if it holds after the one before. -/
theorem holds_next (c : Dev nD) (t : Fin cfg0.N) (h : t.val ≠ 0) (h63 : t.val < 63)
    (hp : Holds m c (t.val - 1) (by omega)) : Holds m c t.val t.isLt := by
  have h0 : ¬ t.val % 64 = 0 := by omega
  have h1 : ¬ t.val % 64 = 63 := by omega
  obtain ⟨h2, hs⟩ := hp
  generalize hq : outsAt0 m c (t.val - 1) (by omega) = q at h2 hs
  obtain ⟨a, q⟩ := q
  subst h2
  have e := next_out m c t h0 h1 _ hq (wts m c) rfl
  unfold Holds
  rw [e]
  dsimp only
  refine ⟨rfl, fun o s => add_term m c t a o s ?_⟩
  exact (hs o s).trans (congrArg (partSum m c o s) (by omega))

/-- It holds after every point before the last. -/
theorem holds (c : Dev nD) : ∀ (n : ℕ) (hn : n < cfg0.N), n < 63 → Holds m c n hn
  | 0, hn, _ => holds_first m c ⟨0, hn⟩ rfl
  | n + 1, hn, h63 => holds_next m c ⟨n + 1, hn⟩ (Nat.succ_ne_zero n) h63 (holds c n (by omega) (by omega))

/-- The sum of all terms. -/
theorem partSum_all (c : Dev nD) (o : Fin 1024) (s : Fin 2048) :
    partSum m c o s 64 = ∑ k, term m c o s k := by
  unfold partSum
  rw [Finset.sum_range]
  exact Finset.sum_congr rfl fun k _ => dif_pos k.isLt

/-- A row before the norm, from the arrays the kernel reads. -/
def rowBefore (c : Dev nD) (s : Fin 2048) (o : Fin 1024) : EReal :=
  xT m c (ix2 o s) + gelu (∑ k, term m c o s k + ∑ k, bE m c (ix2 o k) * wts m c (ix2 k s))

/-- After the last point the block holds the normalized rows. -/
theorem last_at (c : Dev nD) (t : Fin cfg0.N) (ht : t.val = 63) (o : Fin 1024) (s : Fin 2048) :
    (outsAt0 m c t.val t.isLt).1 (ix2 o s)
      = norm (rowBefore m c s) (fun o => gC m c (ix2 o 0)) (fun o => bC m c (ix2 o 0)) o := by
  have h0 : ¬ t.val % 64 = 0 := by omega
  have h1 : t.val % 64 = 63 := by omega
  obtain ⟨h2, hs⟩ := holds m c (t.val - 1) (by omega) (by omega)
  generalize hq : outsAt0 m c (t.val - 1) (by omega) = q at h2 hs
  obtain ⟨a, q⟩ := q
  subst h2
  have e := last_out m c t h0 h1 _ hq (wts m c) rfl
  rw [show (iblk m c 13 t : Vec Ideal S1024x64 .f32) = bE m c from iblk_13 m c t,
    show (iblk m c 14 t : Vec Ideal S1024x1 .f32) = gC m c from iblk_14 m c t,
    show (iblk m c 15 t : Vec Ideal S1024x1 .f32) = bC m c from iblk_15 m c t,
    show (iblk m c 16 t : Vec Ideal S1024x2048 .f32) = xT m c from iblk_16 m c t] at e
  refine (congrFun e (ix2 o s)).trans ((pay6_at _ _ _ o s).trans ?_)
  rw [pay47_at _ _ _ _ (rowBefore m c s) s ?_ o]
  · exact norm_eq (rowBefore m c s) (fun o => gC m c (ix2 o 0)) (fun o => bC m c (ix2 o 0)) o
  intro o
  have ha : a (ix2 o s) = partSum m c o s t.val := (hs o s).trans (congrArg (partSum m c o s) (by omega))
  rw [add_term m c t a o s ha, ht, partSum_all]
  rfl

end Cert.Proof
-- ==== Proof.RefValue.lean ====
/- What the reference computes: each of its stages read at one entry, up to the array it returns. -/
module

public import proofs.«01_k».proof.Proof.Gen.ReferenceIdeal.Read
public import proofs.«01_k».proof.Proof.Algebra

@[expose] public section

noncomputable section

namespace Cert.Proof

open Cert.ReferenceIdeal Cert.ReferenceIdeal.Gen Cert.ReferenceIdeal.Read Idealize.ShloMosaic Idealize.ShloMosaic.TcCoe

/-- A float array of the reference, at the extended reals. -/
abbrev Arr (s : Shape) : Type := (⟨s, .f32⟩ : BufTy).Contents (Elt Ideal)

variable (x0 : Arr S1x2048x1024) (x1 : Arr S1024x64) (x2 : Arr S64)
  (x3 : Arr S4x16x4) (x4 : Arr S4x4) (x5 : Arr S4) (x6 : Arr S4x16x16) (x7 : Arr S4x16) (x8 : Arr S4)
  (x9 : Arr S4x16x64) (x10 : Arr S4x64) (x11 : Arr S4)
  (x12 : Arr S64x1024x1024) (x13 : Arr S64x1024) (x14 : Arr S1024) (x15 : Arr S1024)

/-! ## The routing weights -/

/-- The colour stage is the colour of the row. -/
theorem ref_colour (s : Fin 2048) (e : Fin 64) :
    val_main_v4 (F := Ideal) x0 x1 x2 (ix3 0 s e)
      = colour (fun d => x0 (ix3 0 s d)) (fun d e => x1 (ix2 d e)) (fun e => x2 (ix1 e)) e := by
  unfold val_main_v4 val_main_v3 val_main_v2 val_main_v1 val_main_v0
  pointwise [dot_S1x2048x1024_S1024x64_S1x2048x64_2_0_01_1_n_n]
  rfl

/-- The first level's mixing weights are a softmax. -/
theorem ref_mixing (n : Fin 4) : val_main_v26 (F := Ideal) x5 (ix1 n) = softmax (fun n => x5 (ix1 n)) n := by
  unfold val_main_v26 val_main_v25 val_main_v24 val_main_v23 val_main_cst_3 val_main_v22 val_main_v21 val_main_v20
    val_main_v19 val_main_v18 val_main_v17 val_main_cst_1 val_main_cst_2
  pointwise
  simp only [ofBits_neg_inf, bot_le, max_eq_right]
  rfl

/-- The first level's gates. -/
theorem ref_gate1 (s : Fin 2048) (n : Fin 4) (k : Fin 4) :
    val_main_v16 (F := Ideal) x0 x1 x2 x3 x4 (ix4 0 s n k)
      = Ideal.logistic (∑ d, val_main_v4 (F := Ideal) x0 x1 x2 (ix3 0 s (blk n d)) * x3 (ix3 n d k) + x4 (ix2 n k)) := by
  unfold val_main_v16 val_main_v14 val_main_v12 val_main_v11 val_main_v10 val_main_v9 val_main_v8 val_main_v7 val_main_v6
    val_main_v5 val_main_v13 val_main_cst val_main_v15 val_main_cst_0
  pointwise [dot_S4x16x4_S1x2048x4x16_S4x4x1x2048_1_3_2_01_0_2]
  simp only [mul_comm (x3 _)]
  rfl

/-- The first level's logits. -/
theorem ref_level1 (s : Fin 2048) (k : Fin 4) :
    val_main_v27 (F := Ideal) x0 x1 x2 x3 x4 x5 (ix3 0 s k)
      = level (fun e => val_main_v4 (F := Ideal) x0 x1 x2 (ix3 0 s e)) (fun n d k => x3 (ix3 n d k))
          (fun n k => x4 (ix2 n k)) (fun n => x5 (ix1 n)) k := by
  unfold val_main_v27
  pointwise [dot_S4_S1x2048x4x4_S1x2048x4_0_2_n_013_n_n]
  unfold level
  exact Finset.sum_congr rfl fun n _ => congrArg₂ (· * ·) (ref_mixing x5 n) (ref_gate1 x0 x1 x2 x3 x4 s n k)

/-- The second level's gates. -/
theorem ref_gate2 (s : Fin 2048) (n : Fin 4) (k : Fin 16) :
    val_main_v52 (F := Ideal) x0 x1 x2 x6 x7 (ix4 0 s n k)
      = Ideal.logistic (∑ d, val_main_v4 (F := Ideal) x0 x1 x2 (ix3 0 s (blk n d)) * x6 (ix3 n d k) + x7 (ix2 n k)) := by
  unfold val_main_v52 val_main_v50 val_main_v48 val_main_v47 val_main_v46 val_main_v45 val_main_v44 val_main_v43
    val_main_v42 val_main_v41 val_main_v49 val_main_cst_8 val_main_v51 val_main_cst_9
  pointwise [dot_S4x16x16_S1x2048x4x16_S4x16x1x2048_1_3_2_01_0_2]
  simp only [mul_comm (x6 _)]
  rfl

/-- The second level's logits. -/
theorem ref_level2 (s : Fin 2048) (k : Fin 16) :
    val_main_v63 (F := Ideal) x0 x1 x2 x6 x7 x8 (ix3 0 s k)
      = level (fun e => val_main_v4 (F := Ideal) x0 x1 x2 (ix3 0 s e)) (fun n d k => x6 (ix3 n d k))
          (fun n k => x7 (ix2 n k)) (fun n => x8 (ix1 n)) k := by
  unfold val_main_v63
  pointwise [dot_S4_S1x2048x4x16_S1x2048x16_0_2_n_013_n_n]
  unfold level
  exact Finset.sum_congr rfl fun n _ => congrArg₂ (· * ·) (show val_main_v62 (F := Ideal) x8 (ix1 n) = _ from ref_mixing x8 n) (ref_gate2 x0 x1 x2 x6 x7 s n k)

/-- The third level's gates. -/
theorem ref_gate3 (s : Fin 2048) (n : Fin 4) (k : Fin 64) :
    val_main_v93 (F := Ideal) x0 x1 x2 x9 x10 (ix4 0 s n k)
      = Ideal.logistic (∑ d, val_main_v4 (F := Ideal) x0 x1 x2 (ix3 0 s (blk n d)) * x9 (ix3 n d k) + x10 (ix2 n k)) := by
  unfold val_main_v93 val_main_v91 val_main_v89 val_main_v88 val_main_v87 val_main_v86 val_main_v85 val_main_v84
    val_main_v83 val_main_v82 val_main_v90 val_main_cst_17 val_main_v92 val_main_cst_18
  pointwise [dot_S4x16x64_S1x2048x4x16_S4x64x1x2048_1_3_2_01_0_2]
  simp only [mul_comm (x9 _)]
  rfl

/-- The third level's logits. -/
theorem ref_level3 (s : Fin 2048) (k : Fin 64) :
    val_main_v104 (F := Ideal) x0 x1 x2 x9 x10 x11 (ix3 0 s k)
      = level (fun e => val_main_v4 (F := Ideal) x0 x1 x2 (ix3 0 s e)) (fun n d k => x9 (ix3 n d k))
          (fun n k => x10 (ix2 n k)) (fun n => x11 (ix1 n)) k := by
  unfold val_main_v104
  pointwise [dot_S4_S1x2048x4x64_S1x2048x64_0_2_n_013_n_n]
  unfold level
  exact Finset.sum_congr rfl fun n _ => congrArg₂ (· * ·) (show val_main_v103 (F := Ideal) x11 (ix1 n) = _ from ref_mixing x11 n) (ref_gate3 x0 x1 x2 x9 x10 s n k)

/-- The first level's weights are the softmax of its logits. -/
theorem ref_p1 (s : Fin 2048) (k : Fin 4) :
    val_main_v40 (F := Ideal) x0 x1 x2 x3 x4 x5 (ix3 0 s k)
      = softmax (fun k => val_main_v27 (F := Ideal) x0 x1 x2 x3 x4 x5 (ix3 0 s k)) k := by
  unfold val_main_v40 val_main_v39 val_main_v38 val_main_v37 val_main_cst_7 val_main_v36 val_main_v35 val_main_v34
    val_main_v33 val_main_v32 val_main_v30 val_main_cst_5 val_main_v31 val_main_cst_6 val_main_v29 val_main_v28
    val_main_cst_4
  pointwise
  simp only [ofBits_neg_inf, bot_le, max_eq_right, div_one']
  rfl

/-- The second level's weights are softmaxes over groups of four logits. -/
theorem ref_p2 (s : Fin 2048) (n : Fin 4) (k : Fin 4) :
    val_main_v77 (F := Ideal) x0 x1 x2 x6 x7 x8 (ix4 0 s n k)
      = softmax (fun j : Fin 4 => val_main_v63 (F := Ideal) x0 x1 x2 x6 x7 x8 (ix3 0 s ⟨n * 4 + j, by omega⟩)) k := by
  unfold val_main_v77 val_main_v76 val_main_v75 val_main_v74 val_main_cst_16 val_main_v73 val_main_v72 val_main_v71
    val_main_v70 val_main_v69 val_main_v67 val_main_cst_14 val_main_v68 val_main_cst_15 val_main_v66 val_main_v65
    val_main_cst_13 val_main_v64
  pointwise
  simp only [ofBits_neg_inf, bot_le, max_eq_right, div_one']
  rfl

/-- The third level's weights are softmaxes over groups of four logits. -/
theorem ref_p3 (s : Fin 2048) (n : Fin 16) (k : Fin 4) :
    val_main_v118 (F := Ideal) x0 x1 x2 x9 x10 x11 (ix4 0 s n k)
      = softmax (fun j : Fin 4 => val_main_v104 (F := Ideal) x0 x1 x2 x9 x10 x11 (ix3 0 s ⟨n * 4 + j, by omega⟩)) k := by
  unfold val_main_v118 val_main_v117 val_main_v116 val_main_v115 val_main_cst_25 val_main_v114 val_main_v113 val_main_v112
    val_main_v111 val_main_v110 val_main_v108 val_main_cst_23 val_main_v109 val_main_cst_24 val_main_v107
    val_main_v106 val_main_cst_22 val_main_v105
  pointwise
  simp only [ofBits_neg_inf, bot_le, max_eq_right, div_one']
  rfl

/-- The second level's joint weights. -/
theorem ref_joint2 (s : Fin 2048) (k : Fin 16) :
    val_main_v81 (F := Ideal) x0 x1 x2 x3 x4 x5 x6 x7 x8 (ix3 0 s k)
      = child (m := 4) rfl (fun k => val_main_v40 (F := Ideal) x0 x1 x2 x3 x4 x5 (ix3 0 s k))
          (fun k => val_main_v63 (F := Ideal) x0 x1 x2 x6 x7 x8 (ix3 0 s k)) k := by
  unfold val_main_v81 val_main_v80 val_main_v79 val_main_v78
  pointwise
  rw [ref_p2]
  rfl

/-- The third level's joint weights. -/
theorem ref_joint3 (s : Fin 2048) (k : Fin 64) :
    val_main_v122 (F := Ideal) x0 x1 x2 x3 x4 x5 x6 x7 x8 x9 x10 x11 (ix3 0 s k)
      = child (m := 16) rfl (fun k => val_main_v81 (F := Ideal) x0 x1 x2 x3 x4 x5 x6 x7 x8 (ix3 0 s k))
          (fun k => val_main_v104 (F := Ideal) x0 x1 x2 x9 x10 x11 (ix3 0 s k)) k := by
  unfold val_main_v122 val_main_v121 val_main_v120 val_main_v119
  pointwise
  rw [ref_p3]
  rfl

/-- The routing weights of row `s`, from the reference's arrays. -/
def weights (s : Fin 2048) : Fin 64 → EReal :=
  route (colour (fun d => x0 (ix3 0 s d)) (fun d e => x1 (ix2 d e)) (fun e => x2 (ix1 e)))
        (fun n d k => x3 (ix3 n d k)) (fun n k => x4 (ix2 n k)) (fun n => x5 (ix1 n))
        (fun n d k => x6 (ix3 n d k)) (fun n k => x7 (ix2 n k)) (fun n => x8 (ix1 n))
        (fun n d k => x9 (ix3 n d k)) (fun n k => x10 (ix2 n k)) (fun n => x11 (ix1 n))

/-- The reference's joint weights are the routing weights. -/
theorem ref_weights (s : Fin 2048) (k : Fin 64) :
    val_main_v122 (F := Ideal) x0 x1 x2 x3 x4 x5 x6 x7 x8 x9 x10 x11 (ix3 0 s k) = weights x0 x1 x2 x3 x4 x5 x6 x7 x8 x9 x10 x11 s k := by
  rw [ref_joint3]
  unfold weights route
  simp only [ref_joint2, ref_p1, ref_level1, ref_level2, ref_level3, ref_colour]

/-! ## The mixture and the norm -/

/-- The mixture of the experts. -/
theorem ref_mix (s : Fin 2048) (o : Fin 1024) :
    val_main_v126 (F := Ideal) x0 x1 x2 x3 x4 x5 x6 x7 x8 x9 x10 x11 x12 x13 (ix3 0 s o)
      = mix (weights x0 x1 x2 x3 x4 x5 x6 x7 x8 x9 x10 x11 s) (fun d => x0 (ix3 0 s d)) (fun k d o => x12 (ix3 k d o))
          (fun k o => x13 (ix2 k o)) o := by
  unfold val_main_v126 val_main_v125 val_main_v124 val_main_v123
  pointwise [dot_S1x2048x1024_S64x1024x1024_S1x2048x64x1024_2_1_01_02_n_n]
  simp only [ref_weights]
  rfl

/-- The row `s` before the norm: the input plus the unit of the mixture. -/
def before (s : Fin 2048) (o : Fin 1024) : EReal :=
  x0 (ix3 0 s o) + gelu (mix (weights x0 x1 x2 x3 x4 x5 x6 x7 x8 x9 x10 x11 s) (fun d => x0 (ix3 0 s d))
    (fun k d o => x12 (ix3 k d o)) (fun k o => x13 (ix2 k o)) o)

/-- The row before the norm. -/
theorem ref_before (s : Fin 2048) (o : Fin 1024) :
    val_main_v140 (F := Ideal) x0 x1 x2 x3 x4 x5 x6 x7 x8 x9 x10 x11 x12 x13 (ix3 0 s o) = before x0 x1 x2 x3 x4 x5 x6 x7 x8 x9 x10 x11 x12 x13 s o := by
  unfold val_main_v140 val_main_v139 val_main_v138 val_main_v136 val_main_v134 val_main_v133 val_main_v131 val_main_v130
    val_main_v128 val_main_v127 val_main_v129 val_main_cst_26 val_main_v132 val_main_cst_27 val_main_v135
    val_main_cst_28 val_main_v137 val_main_cst_29
  pointwise
  simp only [ref_mix]
  rfl

/-- What both programs return at row `s` and column `o`. -/
def outputAt (s : Fin 2048) (o : Fin 1024) : EReal :=
  norm (before x0 x1 x2 x3 x4 x5 x6 x7 x8 x9 x10 x11 x12 x13 s) (fun o => x14 (ix1 o)) (fun o => x15 (ix1 o)) o

/-- The reference returns the normalized row. -/
theorem ref_output (s : Fin 2048) (o : Fin 1024) :
    val_main_v158 (F := Ideal) x0 x1 x2 x3 x4 x5 x6 x7 x8 x9 x10 x11 x12 x13 x14 x15 (ix3 0 s o) = outputAt x0 x1 x2 x3 x4 x5 x6 x7 x8 x9 x10 x11 x12 x13 x14 x15 s o := by
  unfold val_main_v158 val_main_v157 val_main_v156 val_main_v155 val_main_v154 val_main_v153 val_main_v152 val_main_v151
    val_main_v150 val_main_v149 val_main_v148 val_main_cst_32 val_main_v145 val_main_call0_call0_v1
    val_main_call0_call0_v0 val_main_call0_cst_4 val_main_call0_v12 val_main_call0_v11 val_main_call0_v10
    val_main_call0_v9 val_main_call0_cst_2 val_main_call0_v6 val_main_call0_v5 val_main_call0_v4 val_main_call0_v3
    val_main_call0_v2 val_main_call0_cst_0 val_main_call0_v1 val_main_call0_v0 val_main_call0_cst val_main_call0_v13
    val_main_call0_cst_3 val_main_call0_v8 val_main_call0_v7 val_main_c val_main_call0_cst_1 val_main_v147
    val_main_v146 val_main_v144 val_main_v143 val_main_cst_31 val_main_v142 val_main_v141 val_main_cst_30
  pointwise
  simp only [sitofp_zero, sub_zero, if_pos ofBits_width_pos, ref_before]
  rfl

end Cert.Proof
-- ==== Proof.KValue.lean ====
/- The array the kernel returns, as a function of its arguments: the one the reference returns. -/
module

public import proofs.«01_k».proof.Proof.KSum
public import proofs.«01_k».proof.Proof.RefValue

@[expose] public section

noncomputable section

namespace Cert.Proof

open Cert.KernelIdeal Cert.KernelIdeal.Gen Idealize.ShloMosaic Idealize.ShloMosaic.TcCoe Idealize.SL.Sem

variable (m : (ℓ : Loc nD τ sig) → Buf (Elt Ideal) ℓ)

/-! ## From the arguments -/

/-- Argument 0, as the entry memory has it. -/
abbrev A0 (c : Dev nD) : Vec Ideal S1x2048x1024 .f32 := m ((c.tc : Thread nD τ).loc main_arg0)

/-- Argument 1, as the entry memory has it. -/
abbrev A1 (c : Dev nD) : Vec Ideal S1024x64 .f32 := m ((c.tc : Thread nD τ).loc main_arg1)

/-- Argument 2, as the entry memory has it. -/
abbrev A2 (c : Dev nD) : Vec Ideal S64 .f32 := m ((c.tc : Thread nD τ).loc main_arg2)

/-- Argument 3, as the entry memory has it. -/
abbrev A3 (c : Dev nD) : Vec Ideal S4x16x4 .f32 := m ((c.tc : Thread nD τ).loc main_arg3)

/-- Argument 4, as the entry memory has it. -/
abbrev A4 (c : Dev nD) : Vec Ideal S4x4 .f32 := m ((c.tc : Thread nD τ).loc main_arg4)

/-- Argument 5, as the entry memory has it. -/
abbrev A5 (c : Dev nD) : Vec Ideal S4 .f32 := m ((c.tc : Thread nD τ).loc main_arg5)

/-- Argument 6, as the entry memory has it. -/
abbrev A6 (c : Dev nD) : Vec Ideal S4x16x16 .f32 := m ((c.tc : Thread nD τ).loc main_arg6)

/-- Argument 7, as the entry memory has it. -/
abbrev A7 (c : Dev nD) : Vec Ideal S4x16 .f32 := m ((c.tc : Thread nD τ).loc main_arg7)

/-- Argument 8, as the entry memory has it. -/
abbrev A8 (c : Dev nD) : Vec Ideal S4 .f32 := m ((c.tc : Thread nD τ).loc main_arg8)

/-- Argument 9, as the entry memory has it. -/
abbrev A9 (c : Dev nD) : Vec Ideal S4x16x64 .f32 := m ((c.tc : Thread nD τ).loc main_arg9)

/-- Argument 10, as the entry memory has it. -/
abbrev A10 (c : Dev nD) : Vec Ideal S4x64 .f32 := m ((c.tc : Thread nD τ).loc main_arg10)

/-- Argument 11, as the entry memory has it. -/
abbrev A11 (c : Dev nD) : Vec Ideal S4 .f32 := m ((c.tc : Thread nD τ).loc main_arg11)

/-- Argument 12, as the entry memory has it. -/
abbrev A12 (c : Dev nD) : Vec Ideal S64x1024x1024 .f32 := m ((c.tc : Thread nD τ).loc main_arg12)

/-- Argument 13, as the entry memory has it. -/
abbrev A13 (c : Dev nD) : Vec Ideal S64x1024 .f32 := m ((c.tc : Thread nD τ).loc main_arg13)

/-- Argument 14, as the entry memory has it. -/
abbrev A14 (c : Dev nD) : Vec Ideal S1024 .f32 := m ((c.tc : Thread nD τ).loc main_arg14)

/-- Argument 15, as the entry memory has it. -/
abbrev A15 (c : Dev nD) : Vec Ideal S1024 .f32 := m ((c.tc : Thread nD τ).loc main_arg15)

/-- A row read through the dropped leading axis. -/
theorem drop_lead (x : Vec Ideal S1x2048x1024 .f32) (s : Fin 2048) (d : Fin 1024) :
    shapeCast S2048x1024 x shapeCasts_S1x2048x1024_S2048x1024 (ix2 s d) = x (ix3 0 s d) := by
  pointwise

/-- The same, transposed. -/
theorem drop_lead_tr (x : Vec Ideal S1x2048x1024 .f32) (d : Fin 1024) (s : Fin 2048) :
    transpose S1024x2048 [1, 0] (shapeCast S2048x1024 x shapeCasts_S1x2048x1024_S2048x1024)
      transposes_S2048x1024_S1024x2048_1_0 (ix2 d s) = x (ix3 0 s d) := by
  pointwise

/-- The experts' biases, transposed. -/
theorem bias_tr (x : Vec Ideal S64x1024 .f32) (o : Fin 1024) (k : Fin 64) :
    transpose S1024x64 [1, 0] x transposes_S64x1024_S1024x64_1_0 (ix2 o k) = x (ix2 k o) := by
  pointwise

/-- A vector of 64 as one row. -/
theorem row64 (x : Vec Ideal S64 .f32) (e : Fin 64) : shapeCast S1x64 x shapeCasts_S64_S1x64 (ix2 0 e) = x (ix1 e) := by
  pointwise

/-- A vector of four as one row. -/
theorem row4 (x : Vec Ideal S4 .f32) (n : Fin 4) : shapeCast S1x4 x shapeCasts_S4_S1x4 (ix2 0 n) = x (ix1 n) := by
  pointwise

/-- A vector of 1024 as one column. -/
theorem col1024 (x : Vec Ideal S1024 .f32) (o : Fin 1024) :
    shapeCast S1024x1 x shapeCasts_S1024_S1024x1 (ix2 o 0) = x (ix1 o) := by
  pointwise

/-- The array returned, from the output block. -/
theorem back_tr (x : Vec Ideal S1024x2048 .f32) (s : Fin 2048) (o : Fin 1024) :
    shapeCast S1x2048x1024 (transpose S2048x1024 [1, 0] x transposes_S1024x2048_S2048x1024_1_0)
      shapeCasts_S2048x1024_S1x2048x1024 (ix3 0 s o) = x (ix2 o s) := by
  pointwise

/-- The rows. -/
theorem iX_at (c : Dev nD) (s : Fin 2048) (d : Fin 1024) : iX m c (ix2 s d) = A0 m c (ix3 0 s d) :=
  (congrFun (V_v0 m c) _).trans (drop_lead _ s d)

/-- The rows, transposed. -/
theorem xT_at (c : Dev nD) (d : Fin 1024) (s : Fin 2048) : xT m c (ix2 d s) = A0 m c (ix3 0 s d) := by
  have e := V_v8 m c
  rw [V_v0] at e
  exact (congrFun e _).trans (drop_lead_tr _ d s)

/-- The experts' biases. -/
theorem bE_at (c : Dev nD) (o : Fin 1024) (k : Fin 64) : bE m c (ix2 o k) = A13 m c (ix2 k o) :=
  (congrFun (V_v5 m c) _).trans (bias_tr _ o k)

/-- The colour's bias. -/
theorem iB_at (c : Dev nD) (e : Fin 64) : iB m c (ix2 0 e) = A2 m c (ix1 e) :=
  (congrFun (V_v1 m c) _).trans (row64 _ e)

/-- The mixing logits of level 1. -/
theorem iM1_at (c : Dev nD) (n : Fin 4) : iM1 m c (ix2 0 n) = A5 m c (ix1 n) :=
  (congrFun (V_v2 m c) _).trans (row4 _ n)

/-- The mixing logits of level 2. -/
theorem iM2_at (c : Dev nD) (n : Fin 4) : iM2 m c (ix2 0 n) = A8 m c (ix1 n) :=
  (congrFun (V_v3 m c) _).trans (row4 _ n)

/-- The mixing logits of level 3. -/
theorem iM3_at (c : Dev nD) (n : Fin 4) : iM3 m c (ix2 0 n) = A11 m c (ix1 n) :=
  (congrFun (V_v4 m c) _).trans (row4 _ n)

/-- The norm's scale. -/
theorem gC_at (c : Dev nD) (o : Fin 1024) : gC m c (ix2 o 0) = A14 m c (ix1 o) :=
  (congrFun (V_v6 m c) _).trans (col1024 _ o)

/-- The norm's shift. -/
theorem bC_at (c : Dev nD) (o : Fin 1024) : bC m c (ix2 o 0) = A15 m c (ix1 o) :=
  (congrFun (V_v7 m c) _).trans (col1024 _ o)

/-- This array is argument 1. -/
theorem iW_eq (c : Dev nD) : iW m c = A1 m c := V_main_arg1 m c

/-- This array is argument 3. -/
theorem iW1_eq (c : Dev nD) : iW1 m c = A3 m c := V_main_arg3 m c

/-- This array is argument 4. -/
theorem iB1_eq (c : Dev nD) : iB1 m c = A4 m c := V_main_arg4 m c

/-- This array is argument 6. -/
theorem iW2_eq (c : Dev nD) : iW2 m c = A6 m c := V_main_arg6 m c

/-- This array is argument 7. -/
theorem iB2_eq (c : Dev nD) : iB2 m c = A7 m c := V_main_arg7 m c

/-- This array is argument 9. -/
theorem iW3_eq (c : Dev nD) : iW3 m c = A9 m c := V_main_arg9 m c

/-- This array is argument 10. -/
theorem iB3_eq (c : Dev nD) : iB3 m c = A10 m c := V_main_arg10 m c

/-- This array is argument 12. -/
theorem wE_eq (c : Dev nD) : wE m c = A12 m c := V_main_arg12 m c

/-- The kernel's weights are the routing weights. -/
theorem wts_at (c : Dev nD) (k : Fin 64) (s : Fin 2048) :
    wts m c (ix2 k s) = weights (A0 m c) (A1 m c) (A2 m c) (A3 m c) (A4 m c) (A5 m c) (A6 m c) (A7 m c) (A8 m c) (A9 m c) (A10 m c) (A11 m c) s k := by
  unfold wts
  rw [jV_at]
  simp only [iX_at, iB_at, iM1_at, iM2_at, iM3_at, iW_eq, iW1_eq, iB1_eq, iW2_eq, iB2_eq, iW3_eq, iB3_eq]
  rfl

/-- The kernel's row before the norm is the reference's. -/
theorem rowBefore_eq (c : Dev nD) (s : Fin 2048) :
    rowBefore m c s = before (A0 m c) (A1 m c) (A2 m c) (A3 m c) (A4 m c) (A5 m c) (A6 m c) (A7 m c) (A8 m c) (A9 m c) (A10 m c) (A11 m c) (A12 m c) (A13 m c) s := by
  funext o
  unfold rowBefore before mix term
  simp only [wts_at, xT_at, bE_at, wE_eq, mul_comm (A12 m c _), mul_comm (A13 m c _)]

/-- The program returns the normalized rows. -/
theorem result_at (c : Dev nD) (s : Fin 2048) (o : Fin 1024) :
    result m c (ix3 0 s o)
      = outputAt (A0 m c) (A1 m c) (A2 m c) (A3 m c) (A4 m c) (A5 m c) (A6 m c) (A7 m c) (A8 m c) (A9 m c) (A10 m c) (A11 m c) (A12 m c) (A13 m c) (A14 m c) (A15 m c) s o := by
  have e : result m c (ix3 0 s o) = (outsAt0 m c last.val last.isLt).1 (ix2 o s) := back_tr _ s o
  rw [e, last_at m c last rfl, rowBefore_eq]
  simp only [gC_at, bC_at]
  rfl

/-- The array the program returns is the one the reference returns from the same arguments. -/
theorem result_eq (c : Dev nD) :
    result m c = Cert.ReferenceIdeal.Read.val_main_v158 (F := Ideal) (A0 m c) (A1 m c) (A2 m c) (A3 m c) (A4 m c) (A5 m c) (A6 m c) (A7 m c) (A8 m c) (A9 m c) (A10 m c) (A11 m c) (A12 m c) (A13 m c) (A14 m c) (A15 m c) := by
  funext i
  have hi : i = ix3 0 (i 1) (i 2) := by
    refine (eq_ix3 i).trans ?_
    exact congrArg (fun a : Fin 1 => ix3 a (i 1) (i 2)) (Subsingleton.elim (α := Fin 1) (i 0) 0)
  rw [hi]
  exact (result_at m c (i 1) (i 2)).trans (ref_output _ _ _ _ _ _ _ _ _ _ _ _ _ _ _ _ (i 1) (i 2)).symm

end Cert.Proof
-- ==== Proof.Equal.lean ====
/- The two programs return the same array: each one's run, with its result as the same function of the
   arguments. -/
module

public import proofs.«01_k».proof.Defs
public import proofs.«01_k».proof.Proof.KValue
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.ShloMosaic.StableHlo Idealize.SL.Sem

/-- Where the arguments agree, the kernel's result is the array the reference computes from its own arguments. -/
theorem result_eq_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9)
        = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10)
        = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11)
        = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12)
        = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13)
        = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14)
        = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15)
        = m ((c.tc : Thread Cert.KernelIdeal.nD Cert.KernelIdeal.τ).loc Cert.KernelIdeal.main_arg15)) :
    Cert.ReferenceIdeal.Read.val_main_v158 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
      = result m c := by
  obtain ⟨h0, h1, h2, h3, h4, h5, h6, h7, h8, h9, h10, h11, h12, h13, h14, h15⟩ := h
  rw [result_eq, h0, h1, h2, h3, h4, h5, h6, h7, h8, h9, h10, h11, h12, h13, h14, h15]

/-- The equation of the two programs. -/
theorem algebraic : Cert.algebraic_KernelIdeal_ReferenceIdeal (hKernelIdeal := Cert.KernelIdeal.Gen.facts)
    (hReferenceIdeal := Cert.ReferenceIdeal.Gen.facts) :=
  fun m ρ m' ρ' _ hag => ⟨fun c => result m c, run m ρ,
    (θ_run Cert.ReferenceIdeal.defs _ _).mono
      (fun _ h c => ⟨((h c).1.trans (Cert.ReferenceIdeal.Read.val_main_v158_eq (launchContents m' c))).trans
        (result_eq_of_agree m m' c (hag c)), (h c).2⟩)
      (Cert.ReferenceIdeal.Value.run (F := Ideal) m' ρ')⟩

end Cert.Proof
-- ==== Proof.lean ====
/- The five claims about the routed mixture of experts: the kernel, its ideal form and the reference each run
   and leave their arguments as they were; the ideal form is the kernel; and kernel and reference return the
   same array over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The five claims: the three programs run and leave their arguments and semaphores as they were, the ideal
    program is the kernel, and kernel and reference return the same array over the extended reals. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  trivial,
  algebraic⟩

end Cert.Proof

end
